-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x5000x24 : Shape := ⟨3, ![8, 5000, 24]⟩
abbrev S2048x512 : Shape := ⟨2, ![2048, 512]⟩
abbrev S1024x4 : Shape := ⟨2, ![1024, 4]⟩
abbrev S1024 : Shape := ⟨1, ![1024]⟩
abbrev S160x1024 : Shape := ⟨2, ![160, 1024]⟩
abbrev S1024x32 : Shape := ⟨2, ![1024, 32]⟩
abbrev S1024x64 : Shape := ⟨2, ![1024, 64]⟩
abbrev S512x1024 : Shape := ⟨2, ![512, 1024]⟩
abbrev S512x120000 : Shape := ⟨2, ![512, 120000]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S8x64 : Shape := ⟨2, ![8, 64]⟩
abbrev S8 : Shape := ⟨1, ![8]⟩
abbrev S8x250x480 : Shape := ⟨3, ![8, 250, 480]⟩
abbrev S_ : Shape := ⟨0, ![]⟩
abbrev S8x250x512 : Shape := ⟨3, ![8, 250, 512]⟩
abbrev S4x1024 : Shape := ⟨2, ![4, 1024]⟩
abbrev S1x1024 : Shape := ⟨2, ![1, 1024]⟩
abbrev S64x1024 : Shape := ⟨2, ![64, 1024]⟩
abbrev S1x250x512 : Shape := ⟨3, ![1, 250, 512]⟩
abbrev S8x32x1024 : Shape := ⟨3, ![8, 32, 1024]⟩
abbrev S250x1024 : Shape := ⟨2, ![250, 1024]⟩
abbrev S8x128x32 : Shape := ⟨3, ![8, 128, 32]⟩
abbrev S250x512 : Shape := ⟨2, ![250, 512]⟩
abbrev S250x2048 : Shape := ⟨2, ![250, 2048]⟩
abbrev S249x1024 : Shape := ⟨2, ![249, 1024]⟩
abbrev S2x1024 : Shape := ⟨2, ![2, 1024]⟩
abbrev S248x1024 : Shape := ⟨2, ![248, 1024]⟩
abbrev S3x1024 : Shape := ⟨2, ![3, 1024]⟩
abbrev S247x1024 : Shape := ⟨2, ![247, 1024]⟩
abbrev S6x1024 : Shape := ⟨2, ![6, 1024]⟩
abbrev S256x1024 : Shape := ⟨2, ![256, 1024]⟩
abbrev S250x160 : Shape := ⟨2, ![250, 160]⟩
abbrev S250x128 : Shape := ⟨2, ![250, 128]⟩
abbrev S6x128 : Shape := ⟨2, ![6, 128]⟩
abbrev S256x128 : Shape := ⟨2, ![256, 128]⟩
abbrev S32x128 : Shape := ⟨2, ![32, 128]⟩
abbrev S128x32 : Shape := ⟨2, ![128, 32]⟩
abbrev S1x128x32 : Shape := ⟨3, ![1, 128, 32]⟩
abbrev S250x32 : Shape := ⟨2, ![250, 32]⟩
abbrev S1x32x1024 : Shape := ⟨3, ![1, 32, 1024]⟩
abbrev S32x1024 : Shape := ⟨2, ![32, 1024]⟩
abbrev S128x1 : Shape := ⟨2, ![128, 1]⟩
abbrev S64x1 : Shape := ⟨2, ![64, 1]⟩
abbrev S8x250x20x24 : Shape := ⟨4, ![8, 250, 20, 24]⟩
abbrev S8x24x250x20 : Shape := ⟨4, ![8, 24, 250, 20]⟩
abbrev S8x24x5000 : Shape := ⟨3, ![8, 24, 5000]⟩
abbrev S512x24x5000 : Shape := ⟨3, ![512, 24, 5000]⟩
abbrev S8x512 : Shape := ⟨2, ![8, 512]⟩
abbrev S8x8x5000 : Shape := ⟨3, ![8, 8, 5000]⟩
abbrev S128x8x5000 : Shape := ⟨3, ![128, 8, 5000]⟩
abbrev S8x128 : Shape := ⟨2, ![8, 128]⟩
abbrev S8x1x5000 : Shape := ⟨3, ![8, 1, 5000]⟩
abbrev S8x5000 : Shape := ⟨2, ![8, 5000]⟩
abbrev S128x1x5000 : Shape := ⟨3, ![128, 1, 5000]⟩
abbrev S128x5000 : Shape := ⟨2, ![128, 5000]⟩
abbrev S1x512 : Shape := ⟨2, ![1, 512]⟩
abbrev S1x256 : Shape := ⟨2, ![1, 256]⟩
abbrev S1x64 : Shape := ⟨2, ![1, 64]⟩
abbrev S1x8 : Shape := ⟨2, ![1, 8]⟩
abbrev S8x8 : Shape := ⟨2, ![8, 8]⟩
abbrev S8x256 : Shape := ⟨2, ![8, 256]⟩

abbrev nBuf : Space → Nat
  | .hbm => 39
  | .vmem => 35
  | .smem => 0
  | _ => 0

abbrev bufTy : (tb : Table) → Fin (tcTables nBuf tb) → BufTy
  | .hbm, ⟨0, _⟩ => ⟨S8x5000x24, .f32⟩
  | .hbm, ⟨1, _⟩ => ⟨S2048x512, .f32⟩
  | .hbm, ⟨2, _⟩ => ⟨S1024x4, .f32⟩
  | .hbm, ⟨3, _⟩ => ⟨S1024, .f32⟩
  | .hbm, ⟨4, _⟩ => ⟨S160x1024, .f32⟩
  | .hbm, ⟨5, _⟩ => ⟨S1024x32, .f32⟩
  | .hbm, ⟨6, _⟩ => ⟨S1024, .f32⟩
  | .hbm, ⟨7, _⟩ => ⟨S1024x64, .f32⟩
  | .hbm, ⟨8, _⟩ => ⟨S1024, .f32⟩
  | .hbm, ⟨9, _⟩ => ⟨S512x1024, .f32⟩
  | .hbm, ⟨10, _⟩ => ⟨S512x120000, .f32⟩
  | .hbm, ⟨11, _⟩ => ⟨S512, .f32⟩
  | .hbm, ⟨12, _⟩ => ⟨S256x512, .f32⟩
  | .hbm, ⟨13, _⟩ => ⟨S256, .f32⟩
  | .hbm, ⟨14, _⟩ => ⟨S64x256, .f32⟩
  | .hbm, ⟨15, _⟩ => ⟨S64, .f32⟩
  | .hbm, ⟨16, _⟩ => ⟨S8x64, .f32⟩
  | .hbm, ⟨17, _⟩ => ⟨S8, .f32⟩
  | .hbm, ⟨18, _⟩ => ⟨S8x250x480, .f32⟩
  | .hbm, ⟨19, _⟩ => ⟨S_, .i32⟩
  | .hbm, ⟨20, _⟩ => ⟨S_, .f32⟩
  | .hbm, ⟨21, _⟩ => ⟨S8x250x512, .f32⟩
  | .hbm, ⟨22, _⟩ => ⟨S4x1024, .f32⟩
  | .hbm, ⟨23, _⟩ => ⟨S1x1024, .f32⟩
  | .hbm, ⟨24, _⟩ => ⟨S1x1024, .f32⟩
  | .hbm, ⟨25, _⟩ => ⟨S64x1024, .f32⟩
  | .hbm, ⟨26, _⟩ => ⟨S1x1024, .f32⟩
  | .hbm, ⟨27, _⟩ => ⟨S8x250x512, .f32⟩
  | .hbm, ⟨28, _⟩ => ⟨S8x250x480, .f32⟩
  | .hbm, ⟨29, _⟩ => ⟨S8x250x20x24, .f32⟩
  | .hbm, ⟨30, _⟩ => ⟨S8x24x250x20, .f32⟩
  | .hbm, ⟨31, _⟩ => ⟨S8x24x5000, .f32⟩
  | .hbm, ⟨32, _⟩ => ⟨S512x24x5000, .f32⟩
  | .hbm, ⟨33, _⟩ => ⟨S8x512, .f32⟩
  | .hbm, ⟨34, _⟩ => ⟨S1x512, .f32⟩
  | .hbm, ⟨35, _⟩ => ⟨S1x256, .f32⟩
  | .hbm, ⟨36, _⟩ => ⟨S1x64, .f32⟩
  | .hbm, ⟨37, _⟩ => ⟨S1x8, .f32⟩
  | .hbm, ⟨38, _⟩ => ⟨S8x8, .f32⟩
  | .local _ .vmem, ⟨0, _⟩ => ⟨S1x250x512, .f32⟩
  | .local _ .vmem, ⟨1, _⟩ => ⟨S1x250x512, .f32⟩
  | .local _ .vmem, ⟨2, _⟩ => ⟨S2048x512, .f32⟩
  | .local _ .vmem, ⟨3, _⟩ => ⟨S4x1024, .f32⟩
  | .local _ .vmem, ⟨4, _⟩ => ⟨S1x1024, .f32⟩
  | .local _ .vmem, ⟨5, _⟩ => ⟨S160x1024, .f32⟩
  | .local _ .vmem, ⟨6, _⟩ => ⟨S1024x32, .f32⟩
  | .local _ .vmem, ⟨7, _⟩ => ⟨S1x1024, .f32⟩
  | .local _ .vmem, ⟨8, _⟩ => ⟨S64x1024, .f32⟩
  | .local _ .vmem, ⟨9, _⟩ => ⟨S1x1024, .f32⟩
  | .local _ .vmem, ⟨10, _⟩ => ⟨S512x1024, .f32⟩
  | .local _ .vmem, ⟨11, _⟩ => ⟨S1x250x512, .f32⟩
  | .local _ .vmem, ⟨12, _⟩ => ⟨S1x250x512, .f32⟩
  | .local _ .vmem, ⟨13, _⟩ => ⟨S8x32x1024, .f32⟩
  | .local _ .vmem, ⟨14, _⟩ => ⟨S8x32x1024, .f32⟩
  | .local _ .vmem, ⟨15, _⟩ => ⟨S250x1024, .f32⟩
  | .local _ .vmem, ⟨16, _⟩ => ⟨S8x128x32, .f32⟩
  | .local _ .vmem, ⟨17, _⟩ => ⟨S8x32x1024, .f32⟩
  | .local _ .vmem, ⟨18, _⟩ => ⟨S64x1024, .f32⟩
  | .local _ .vmem, ⟨19, _⟩ => ⟨S64x1024, .f32⟩
  | .local _ .vmem, ⟨20, _⟩ => ⟨S8x8x5000, .f32⟩
  | .local _ .vmem, ⟨21, _⟩ => ⟨S8x8x5000, .f32⟩
  | .local _ .vmem, ⟨22, _⟩ => ⟨S128x8x5000, .f32⟩
  | .local _ .vmem, ⟨23, _⟩ => ⟨S128x8x5000, .f32⟩
  | .local _ .vmem, ⟨24, _⟩ => ⟨S8x128, .f32⟩
  | .local _ .vmem, ⟨25, _⟩ => ⟨S8x128, .f32⟩
  | .local _ .vmem, ⟨26, _⟩ => ⟨S8x512, .f32⟩
  | .local _ .vmem, ⟨27, _⟩ => ⟨S1x512, .f32⟩
  | .local _ .vmem, ⟨28, _⟩ => ⟨S256x512, .f32⟩
  | .local _ .vmem, ⟨29, _⟩ => ⟨S1x256, .f32⟩
  | .local _ .vmem, ⟨30, _⟩ => ⟨S64x256, .f32⟩
  | .local _ .vmem, ⟨31, _⟩ => ⟨S1x64, .f32⟩
  | .local _ .vmem, ⟨32, _⟩ => ⟨S8x64, .f32⟩
  | .local _ .vmem, ⟨33, _⟩ => ⟨S1x8, .f32⟩
  | .local _ .vmem, ⟨34, _⟩ => ⟨S8x8, .f32⟩
  | _, _ => ⟨S8x5000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v136 : BitVec 32 := Scalar.addi c0_i32 c8_i32
  let c1_i32 : BitVec 32 := 1#32
  ⟨c0_i32, v136, c1_i32⟩
def k0_off1 (k0_t1 : Fin k0_t1_loop.trips) : Fin 3 → Nat :=
  let c0_i32 : BitVec 32 := 0#32
  let c1_i32 : BitVec 32 := 1#32
  let arg19 : BitVec 32 := Scf.iv c0_i32 c1_i32 k0_t1
  let v173 : Index := Scalar.indexCast arg19
  let c0_89 : Index := 0#32
  let c0_90 : Index := 0#32
  ![v173.toNat, 0, 0]
def k0_off2 (k0_t1 : Fin k0_t1_loop.trips) : Fin 3 → Nat :=
  let c0_i32 : BitVec 32 := 0#32
  let c1_i32 : BitVec 32 := 1#32
  let arg19 : BitVec 32 := Scf.iv c0_i32 c1_i32 k0_t1
  let v179 : Index := Scalar.indexCast arg19
  let c0_93 : Index := 0#32
  let c0_94 : Index := 0#32
  ![v179.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x250x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x250x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![4, 3], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x8x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x8x5000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := .none

abbrev stage2_0 : Fin 1 → Memref sig .tc .vmem S8x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S8x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S8x8 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
-- ==== ReferenceIdeal.lean ====
abbrev S8x5000x24 : Shape := ⟨3, ![8, 5000, 24]⟩
abbrev S2048x512 : Shape := ⟨2, ![2048, 512]⟩
abbrev S1024x4 : Shape := ⟨2, ![1024, 4]⟩
abbrev S1024 : Shape := ⟨1, ![1024]⟩
abbrev S160x1024 : Shape := ⟨2, ![160, 1024]⟩
abbrev S1024x32 : Shape := ⟨2, ![1024, 32]⟩
abbrev S1024x64 : Shape := ⟨2, ![1024, 64]⟩
abbrev S512x1024 : Shape := ⟨2, ![512, 1024]⟩
abbrev S512x120000 : Shape := ⟨2, ![512, 120000]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S8x64 : Shape := ⟨2, ![8, 64]⟩
abbrev S8 : Shape := ⟨1, ![8]⟩
abbrev S8x250x480 : Shape := ⟨3, ![8, 250, 480]⟩
abbrev S_ : Shape := ⟨0, ![]⟩
abbrev S8x250x512 : Shape := ⟨3, ![8, 250, 512]⟩
abbrev S8x250x2048 : Shape := ⟨3, ![8, 250, 2048]⟩
abbrev S8x250x1024 : Shape := ⟨3, ![8, 250, 1024]⟩
abbrev S8x253x1024 : Shape := ⟨3, ![8, 253, 1024]⟩
abbrev S1024x1 : Shape := ⟨2, ![1024, 1]⟩
abbrev S1x1x1024 : Shape := ⟨3, ![1, 1, 1024]⟩
abbrev S8x250x160 : Shape := ⟨3, ![8, 250, 160]⟩
abbrev S8x250x32 : Shape := ⟨3, ![8, 250, 32]⟩
abbrev S8x250x64 : Shape := ⟨3, ![8, 250, 64]⟩
abbrev S250x8x1024 : Shape := ⟨3, ![250, 8, 1024]⟩
abbrev S250x8x64 : Shape := ⟨3, ![250, 8, 64]⟩
abbrev S8x1024x64 : Shape := ⟨3, ![8, 1024, 64]⟩
abbrev S1x8x1024 : Shape := ⟨3, ![1, 8, 1024]⟩
abbrev S8x1024 : Shape := ⟨2, ![8, 1024]⟩
abbrev S1x8x64 : Shape := ⟨3, ![1, 8, 64]⟩
abbrev S8x1024x1 : Shape := ⟨3, ![8, 1024, 1]⟩
abbrev S1x1024x64 : Shape := ⟨3, ![1, 1024, 64]⟩
abbrev S8x1x64 : Shape := ⟨3, ![8, 1, 64]⟩
abbrev S8x24x5000 : Shape := ⟨3, ![8, 24, 5000]⟩
abbrev S8x120000 : Shape := ⟨2, ![8, 120000]⟩
abbrev S120000x512 : Shape := ⟨2, ![120000, 512]⟩
abbrev S8x512 : Shape := ⟨2, ![8, 512]⟩
abbrev S1x512 : Shape := ⟨2, ![1, 512]⟩
abbrev S512x256 : Shape := ⟨2, ![512, 256]⟩
abbrev S8x256 : Shape := ⟨2, ![8, 256]⟩
abbrev S1x256 : Shape := ⟨2, ![1, 256]⟩
abbrev S256x64 : Shape := ⟨2, ![256, 64]⟩
abbrev S1x64 : Shape := ⟨2, ![1, 64]⟩
abbrev S64x8 : Shape := ⟨2, ![64, 8]⟩
abbrev S8x8 : Shape := ⟨2, ![8, 8]⟩
abbrev S1x8 : Shape := ⟨2, ![1, 8]⟩

abbrev nBuf : Space → Nat
  | .hbm => 211
  | .vmem => 0
  | .smem => 0
  | _ => 0

abbrev hbmTy0_0 (i : Nat) : BufTy := match i % 128 with
  | 0 => ⟨S8x5000x24, .f32⟩
  | 1 => ⟨S2048x512, .f32⟩
  | 2 => ⟨S1024x4, .f32⟩
  | 3 => ⟨S1024, .f32⟩
  | 4 => ⟨S160x1024, .f32⟩
  | 5 => ⟨S1024x32, .f32⟩
  | 6 => ⟨S1024, .f32⟩
  | 7 => ⟨S1024x64, .f32⟩
  | 8 => ⟨S1024, .f32⟩
  | 9 => ⟨S512x1024, .f32⟩
  | 10 => ⟨S512x120000, .f32⟩
  | 11 => ⟨S512, .f32⟩
  | 12 => ⟨S256x512, .f32⟩
  | 13 => ⟨S256, .f32⟩
  | 14 => ⟨S64x256, .f32⟩
  | 15 => ⟨S64, .f32⟩
  | 16 => ⟨S8x64, .f32⟩
  | 17 => ⟨S8, .f32⟩
  | 18 => ⟨S8x250x480, .f32⟩
  | 19 => ⟨S_, .i32⟩
  | 20 => ⟨S_, .f32⟩
  | 21 => ⟨S8x250x512, .f32⟩
  | 22 => ⟨S8x250x2048, .f32⟩
  | 23 => ⟨S8x250x1024, .f32⟩
  | 24 => ⟨S8x250x1024, .f32⟩
  | 25 => ⟨S_, .i32⟩
  | 26 => ⟨S_, .f32⟩
  | 27 => ⟨S8x253x1024, .f32⟩
  | 28 => ⟨S8x250x1024, .f32⟩
  | 29 => ⟨S1024x1, .f32⟩
  | 30 => ⟨S1024, .f32⟩
  | 31 => ⟨S1x1x1024, .f32⟩
  | 32 => ⟨S8x250x1024, .f32⟩
  | 33 => ⟨S8x250x1024, .f32⟩
  | 34 => ⟨S_, .f32⟩
  | 35 => ⟨S8x250x1024, .f32⟩
  | 36 => ⟨S8x250x1024, .f32⟩
  | 37 => ⟨S8x250x1024, .f32⟩
  | 38 => ⟨S1024x1, .f32⟩
  | 39 => ⟨S1024, .f32⟩
  | 40 => ⟨S1x1x1024, .f32⟩
  | 41 => ⟨S8x250x1024, .f32⟩
  | 42 => ⟨S8x250x1024, .f32⟩
  | 43 => ⟨S8x250x1024, .f32⟩
  | 44 => ⟨S8x250x1024, .f32⟩
  | 45 => ⟨S1024x1, .f32⟩
  | 46 => ⟨S1024, .f32⟩
  | 47 => ⟨S1x1x1024, .f32⟩
  | 48 => ⟨S8x250x1024, .f32⟩
  | 49 => ⟨S8x250x1024, .f32⟩
  | 50 => ⟨S8x250x1024, .f32⟩
  | 51 => ⟨S8x250x1024, .f32⟩
  | 52 => ⟨S1024x1, .f32⟩
  | 53 => ⟨S1024, .f32⟩
  | 54 => ⟨S1x1x1024, .f32⟩
  | 55 => ⟨S8x250x1024, .f32⟩
  | 56 => ⟨S8x250x1024, .f32⟩
  | 57 => ⟨S8x250x1024, .f32⟩
  | 58 => ⟨S1x1x1024, .f32⟩
  | 59 => ⟨S8x250x1024, .f32⟩
  | 60 => ⟨S8x250x1024, .f32⟩
  | 61 => ⟨S8x250x1024, .f32⟩
  | 62 => ⟨S8x250x1024, .f32⟩
  | 63 => ⟨S_, .f32⟩
  | 64 => ⟨S8x250x1024, .f32⟩
  | 65 => ⟨S8x250x1024, .f32⟩
  | 66 => ⟨S_, .f32⟩
  | 67 => ⟨S8x250x1024, .f32⟩
  | 68 => ⟨S8x250x1024, .f32⟩
  | 69 => ⟨S8x250x1024, .f32⟩
  | 70 => ⟨S8x250x160, .f32⟩
  | 71 => ⟨S8x250x32, .f32⟩
  | 72 => ⟨S8x250x64, .f32⟩
  | 73 => ⟨S8x250x64, .f32⟩
  | 74 => ⟨S8x250x1024, .f32⟩
  | 75 => ⟨S1x1x1024, .f32⟩
  | 76 => ⟨S8x250x1024, .f32⟩
  | 77 => ⟨S8x250x1024, .f32⟩
  | 78 => ⟨S_, .f32⟩
  | 79 => ⟨S8x250x1024, .f32⟩
  | 80 => ⟨S8x250x1024, .f32⟩
  | 81 => ⟨S8x250x1024, .f32⟩
  | 82 => ⟨S8x250x1024, .f32⟩
  | 83 => ⟨S8x250x1024, .i1⟩
  | 84 => ⟨S8x250x1024, .f32⟩
  | 85 => ⟨S8x250x1024, .f32⟩
  | 86 => ⟨S8x250x1024, .f32⟩
  | 87 => ⟨S8x250x1024, .f32⟩
  | 88 => ⟨S8x250x1024, .f32⟩
  | 89 => ⟨S8x250x1024, .f32⟩
  | 90 => ⟨S8x250x1024, .f32⟩
  | 91 => ⟨S8x250x1024, .f32⟩
  | 92 => ⟨S1024x64, .f32⟩
  | 93 => ⟨S1024x64, .f32⟩
  | 94 => ⟨S250x8x1024, .f32⟩
  | 95 => ⟨S250x8x64, .f32⟩
  | 96 => ⟨S250x8x64, .f32⟩
  | 97 => ⟨S250x8x1024, .f32⟩
  | 98 => ⟨S_, .f32⟩
  | 99 => ⟨S8x1024x64, .f32⟩
  | 100 => ⟨S_, .f32⟩
  | 101 => ⟨S250x8x1024, .f32⟩
  | 102 => ⟨S_, .i32⟩
  | 103 => ⟨S250x8x1024, .f32⟩
  | 104 => ⟨S250x8x64, .f32⟩
  | 105 => ⟨S250x8x64, .f32⟩
  | 106 => ⟨S250x8x1024, .f32⟩
  | 107 => ⟨S1024x64, .f32⟩
  | 108 => ⟨S_, .i32⟩
  | 109 => ⟨S8x1024x64, .f32⟩
  | 110 => ⟨S250x8x1024, .f32⟩
  | 111 => ⟨S_, .i32⟩
  | 112 => ⟨S_, .i1⟩
  | 113 => ⟨S_, .i32⟩
  | 114 => ⟨S_, .i32⟩
  | 115 => ⟨S1x8x1024, .f32⟩
  | 116 => ⟨S8x1024, .f32⟩
  | 117 => ⟨S_, .i32⟩
  | 118 => ⟨S_, .i32⟩
  | 119 => ⟨S1x8x64, .f32⟩
  | 120 => ⟨S8x64, .f32⟩
  | 121 => ⟨S_, .i32⟩
  | 122 => ⟨S_, .i32⟩
  | 123 => ⟨S1x8x64, .f32⟩
  | 124 => ⟨S8x64, .f32⟩
  | 125 => ⟨S_, .i32⟩
  | 126 => ⟨S_, .i32⟩
  | 127 => ⟨S1x8x1024, .f32⟩
  | _ => ⟨S8x5000x24, .f32⟩

abbrev hbmTy0_1 (i : Nat) : BufTy := match i % 128 with
  | 0 => ⟨S8x1024, .f32⟩
  | 1 => ⟨S8x1024x1, .f32⟩
  | 2 => ⟨S1x1024x64, .f32⟩
  | 3 => ⟨S8x1024x64, .f32⟩
  | 4 => ⟨S8x1024x64, .f32⟩
  | 5 => ⟨S8x1024x64, .f32⟩
  | 6 => ⟨S8x1024x64, .f32⟩
  | 7 => ⟨S8x1024x1, .f32⟩
  | 8 => ⟨S8x1x64, .f32⟩
  | 9 => ⟨S8x1024x64, .f32⟩
  | 10 => ⟨S8x1024x64, .f32⟩
  | 11 => ⟨S8x1024x64, .f32⟩
  | 12 => ⟨S8x1024x1, .f32⟩
  | 13 => ⟨S8x1024x64, .f32⟩
  | 14 => ⟨S8x1024x64, .f32⟩
  | 15 => ⟨S8x1024x64, .f32⟩
  | 16 => ⟨S8x1024x64, .f32⟩
  | 17 => ⟨S8x1024, .f32⟩
  | 18 => ⟨S1x8x1024, .f32⟩
  | 19 => ⟨S_, .i32⟩
  | 20 => ⟨S_, .i32⟩
  | 21 => ⟨S250x8x1024, .f32⟩
  | 22 => ⟨S_, .i32⟩
  | 23 => ⟨S_, .i32⟩
  | 24 => ⟨S8x250x1024, .f32⟩
  | 25 => ⟨S1x1x1024, .f32⟩
  | 26 => ⟨S8x250x1024, .f32⟩
  | 27 => ⟨S8x250x1024, .f32⟩
  | 28 => ⟨S8x250x1024, .f32⟩
  | 29 => ⟨S8x250x1024, .f32⟩
  | 30 => ⟨S8x250x1024, .f32⟩
  | 31 => ⟨S_, .f32⟩
  | 32 => ⟨S8x250x1024, .f32⟩
  | 33 => ⟨S8x250x1024, .f32⟩
  | 34 => ⟨S_, .f32⟩
  | 35 => ⟨S8x250x1024, .f32⟩
  | 36 => ⟨S8x250x1024, .f32⟩
  | 37 => ⟨S8x250x1024, .f32⟩
  | 38 => ⟨S8x250x1024, .f32⟩
  | 39 => ⟨S8x250x512, .f32⟩
  | 40 => ⟨S_, .f32⟩
  | 41 => ⟨S_, .f32⟩
  | 42 => ⟨S8x250x512, .f32⟩
  | 43 => ⟨S8x250x512, .i1⟩
  | 44 => ⟨S_, .f32⟩
  | 45 => ⟨S8x250x512, .f32⟩
  | 46 => ⟨S8x250x512, .i1⟩
  | 47 => ⟨S_, .f32⟩
  | 48 => ⟨S_, .f32⟩
  | 49 => ⟨S8x250x512, .f32⟩
  | 50 => ⟨S8x250x512, .f32⟩
  | 51 => ⟨S8x250x512, .f32⟩
  | 52 => ⟨S_, .f32⟩
  | 53 => ⟨S8x250x512, .f32⟩
  | 54 => ⟨S8x250x512, .f32⟩
  | 55 => ⟨S8x250x512, .f32⟩
  | 56 => ⟨S_, .f32⟩
  | 57 => ⟨S8x250x512, .f32⟩
  | 58 => ⟨S8x250x512, .f32⟩
  | 59 => ⟨S8x250x480, .f32⟩
  | 60 => ⟨S8x5000x24, .f32⟩
  | 61 => ⟨S8x24x5000, .f32⟩
  | 62 => ⟨S8x120000, .f32⟩
  | 63 => ⟨S120000x512, .f32⟩
  | 64 => ⟨S8x512, .f32⟩
  | 65 => ⟨S1x512, .f32⟩
  | 66 => ⟨S8x512, .f32⟩
  | 67 => ⟨S8x512, .f32⟩
  | 68 => ⟨S512x256, .f32⟩
  | 69 => ⟨S8x256, .f32⟩
  | 70 => ⟨S1x256, .f32⟩
  | 71 => ⟨S8x256, .f32⟩
  | 72 => ⟨S8x256, .f32⟩
  | 73 => ⟨S256x64, .f32⟩
  | 74 => ⟨S8x64, .f32⟩
  | 75 => ⟨S1x64, .f32⟩
  | 76 => ⟨S8x64, .f32⟩
  | 77 => ⟨S8x64, .f32⟩
  | 78 => ⟨S64x8, .f32⟩
  | 79 => ⟨S8x8, .f32⟩
  | 80 => ⟨S1x8, .f32⟩
  | 81 => ⟨S8x8, .f32⟩
  | 82 => ⟨S8x8, .f32⟩
  | _ => ⟨S8x5000x24, .f32⟩

abbrev hbmTy (i : Nat) : BufTy := match i / 128 with
  | 0 => hbmTy0_0 i
  | 1 => hbmTy0_1 i
  | _ => ⟨S8x5000x24, .f32⟩

abbrev bufTy : (tb : Table) → Fin (tcTables nBuf tb) → BufTy
  | .hbm, ⟨i, _⟩ => hbmTy i
  | _, _ => ⟨S8x5000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call3_cst : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_1 : Ref sig .tc := ⟨.hbm, 98, rfl⟩
abbrev main_v54 : Ref sig .tc := ⟨.hbm, 99, rfl⟩
abbrev main_cst_2 : Ref sig .tc := ⟨.hbm, 100, rfl⟩
abbrev main_v55 : Ref sig .tc := ⟨.hbm, 101, rfl⟩
abbrev main_c_3 : Ref sig .tc := ⟨.hbm, 102, rfl⟩
abbrev main_v56_0 : Ref sig .tc := ⟨.hbm, 103, rfl⟩
abbrev main_v56_1 : Ref sig .tc := ⟨.hbm, 104, rfl⟩
abbrev main_v56_2 : Ref sig .tc := ⟨.hbm, 105, rfl⟩
abbrev main_v56_3 : Ref sig .tc := ⟨.hbm, 106, rfl⟩
abbrev main_v56_4 : Ref sig .tc := ⟨.hbm, 107, rfl⟩
abbrev main_v56_5 : Ref sig .tc := ⟨.hbm, 108, rfl⟩
abbrev main_v56_6 : Ref sig .tc := ⟨.hbm, 109, rfl⟩
abbrev main_v56_7 : Ref sig .tc := ⟨.hbm, 110, rfl⟩
abbrev main_while0c_c_11 : Ref sig .tc := ⟨.hbm, 111, rfl⟩
abbrev main_while0c_v90 : Ref sig .tc := ⟨.hbm, 112, rfl⟩
abbrev main_while0b_call4_c : Ref sig .tc := ⟨.hbm, 113, rfl⟩
abbrev main_while0b_call4_c_0 : Ref sig .tc := ⟨.hbm, 114, rfl⟩
abbrev main_while0b_call4_v0 : Ref sig .tc := ⟨.hbm, 115, rfl⟩
abbrev main_while0b_v90 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_v0 : Ref sig .tc := ⟨.hbm, 119, rfl⟩
abbrev main_while0b_v91 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_v0 : Ref sig .tc := ⟨.hbm, 123, rfl⟩
abbrev main_while0b_v92 : Ref sig .tc := ⟨.hbm, 124, rfl⟩
abbrev main_while0b_call7_c : Ref sig .tc := ⟨.hbm, 125, rfl⟩
abbrev main_while0b_call7_c_0 : Ref sig .tc := ⟨.hbm, 126, rfl⟩
abbrev main_while0b_call7_v0 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_v103 : Ref sig .tc := ⟨.hbm, 138, rfl⟩
abbrev main_while0b_v104 : Ref sig .tc := ⟨.hbm, 139, rfl⟩
abbrev main_while0b_v105 : Ref sig .tc := ⟨.hbm, 140, rfl⟩
abbrev main_while0b_v106 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_v110 : Ref sig .tc := ⟨.hbm, 145, rfl⟩
abbrev main_while0b_call8_v0 : Ref sig .tc := ⟨.hbm, 146, rfl⟩
abbrev main_while0b_call8_c : Ref sig .tc := ⟨.hbm, 147, rfl⟩
abbrev main_while0b_call8_c_0 : Ref sig .tc := ⟨.hbm, 148, rfl⟩
abbrev main_while0b_v111 : Ref sig .tc := ⟨.hbm, 149, rfl⟩
abbrev main_while0b_c_11 : Ref sig .tc := ⟨.hbm, 150, rfl⟩
abbrev main_while0b_v112 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_call9_v0 : Ref sig .tc := ⟨.hbm, 157, rfl⟩
abbrev main_call9_v1 : Ref sig .tc := ⟨.hbm, 158, rfl⟩
abbrev main_call9_cst : Ref sig .tc := ⟨.hbm, 159, rfl⟩
abbrev main_call9_v2 : Ref sig .tc := ⟨.hbm, 160, rfl⟩
abbrev main_call9_v3 : Ref sig .tc := ⟨.hbm, 161, rfl⟩
abbrev main_call9_cst_0 : Ref sig .tc := ⟨.hbm, 162, rfl⟩
abbrev main_call9_v4 : Ref sig .tc := ⟨.hbm, 163, rfl⟩
abbrev main_call9_v5 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_call10_cst : Ref sig .tc := ⟨.hbm, 168, rfl⟩
abbrev main_call10_call0_cst : Ref sig .tc := ⟨.hbm, 169, rfl⟩
abbrev main_call10_call0_v0 : Ref sig .tc := ⟨.hbm, 170, rfl⟩
abbrev main_call10_call0_v1 : Ref sig .tc := ⟨.hbm, 171, rfl⟩
abbrev main_call10_call0_cst_0 : Ref sig .tc := ⟨.hbm, 172, rfl⟩
abbrev main_call10_call0_v2 : Ref sig .tc := ⟨.hbm, 173, rfl⟩
abbrev main_call10_call0_v3 : Ref sig .tc := ⟨.hbm, 174, rfl⟩
abbrev main_call10_call0_cst_1 : Ref sig .tc := ⟨.hbm, 175, rfl⟩
abbrev main_call10_call0_call0_v0 : Ref sig .tc := ⟨.hbm, 176, rfl⟩
abbrev main_call10_call0_call0_v1 : Ref sig .tc := ⟨.hbm, 177, rfl⟩
abbrev main_call10_call0_v4 : Ref sig .tc := ⟨.hbm, 178, rfl⟩
abbrev main_call10_call0_v5 : Ref sig .tc := ⟨.hbm, 179, rfl⟩
abbrev main_call10_call0_v6 : Ref sig .tc := ⟨.hbm, 180, rfl⟩
abbrev main_call10_call0_v7 : Ref sig .tc := ⟨.hbm, 181, rfl⟩
abbrev main_call10_call0_v8 : Ref sig .tc := ⟨.hbm, 182, rfl⟩
abbrev main_call10_v0 : Ref sig .tc := ⟨.hbm, 183, rfl⟩
abbrev main_call10_cst_0 : Ref sig .tc := ⟨.hbm, 184, rfl⟩
abbrev main_call10_v1 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩

abbrev nD : Nat := 1
abbrev τ : Topo := Topo.v7x

variable {F : FTy → Type} [FloatOps F]

abbrev main_while0_count : Scf.Loop 32 := ⟨0#32, 250#32, 1#32⟩
-- ==== Proof.Ref.lean ====
/-
  The reference's run: every argument ends as launched, and the buffers at the boundaries of its stretches.
-/
module

public import proofs.«01_k».proof.Defs
public import proofs.«01_k».proof.Proof.Gen.ReferenceIdeal.Run
public import Idealize.ShloMosaic.Lib.Quiescent

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- The reference's arguments. -/
abbrev args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17]

/-- What the ops after the loop write, stretch by stretch. -/
abbrev W9 : List (Ref sig .tc) := [main_v57, main_v58, main_v59, main_v60, main_v61]
/-- The first stretch after the loop writes these buffers only. -/
theorem writes9 : (hostOps0_9 : List (HloOp τ sig (Elt F))).Forall fun op => op.writes ⊆ (W9.map (Proc.devRef (τ := τ) .tc)).toFinset :=
  StableHlo.forall_writes_sub_of_map rfl
/-- What the second stretch after the loop writes. -/
abbrev W10 : List (Ref sig .tc) :=
  [main_call9_v0, main_call9_v1, main_call9_cst, main_call9_v2, main_call9_v3, main_call9_cst_0, main_call9_v4, main_call9_v5, main_v62]
/-- It writes these buffers only. -/
theorem writes10 : (hostOps0_10 : List (HloOp τ sig (Elt F))).Forall fun op => op.writes ⊆ (W10.map (Proc.devRef (τ := τ) .tc)).toFinset :=
  StableHlo.forall_writes_sub_of_map rfl
/-- What the third stretch after the loop writes. -/
abbrev W11 : List (Ref sig .tc) := [main_v63, main_v64]
/-- It writes these buffers only. -/
theorem writes11 : (hostOps0_11 : List (HloOp τ sig (Elt F))).Forall fun op => op.writes ⊆ (W11.map (Proc.devRef (τ := τ) .tc)).toFinset :=
  StableHlo.forall_writes_sub_of_map rfl
/-- What the fourth stretch after the loop writes. -/
abbrev W12 : List (Ref sig .tc) :=
  [main_call10_cst, main_call10_call0_cst, main_call10_call0_v0, main_call10_call0_v1, main_call10_call0_cst_0, main_call10_call0_v2,
   main_call10_call0_v3, main_call10_call0_cst_1, main_call10_call0_call0_v0, main_call10_call0_call0_v1, main_call10_call0_v4,
   main_call10_call0_v5, main_call10_call0_v6, main_call10_call0_v7, main_call10_call0_v8, main_call10_v0, main_call10_cst_0,
   main_call10_v1, main_v65]
/-- It writes these buffers only. -/
theorem writes12 : (hostOps0_12 : List (HloOp τ sig (Elt F))).Forall fun op => op.writes ⊆ (W12.map (Proc.devRef (τ := τ) .tc)).toFinset :=
  StableHlo.forall_writes_sub_of_map rfl
/-- What the last stretch writes. -/
abbrev W13 : List (Ref sig .tc) :=
  [main_v66, main_v67, main_v68, main_v69, main_v70, main_v71, main_v72, main_v73, main_v74, main_v75, main_v76, main_v77, main_v78,
   main_v79, main_v80, main_v81, main_v82, main_v83, main_v84, main_v85, main_v86, main_v87, main_v88, main_v89]
/-- It writes these buffers only. -/
theorem writes13 : (hostOps0_13 : List (HloOp τ sig (Elt F))).Forall fun op => op.writes ⊆ (W13.map (Proc.devRef (τ := τ) .tc)).toFinset :=
  StableHlo.forall_writes_sub_of_map rfl

/-- A buffer no operation before the loop writes is as before it. -/
theorem pre_keep (V : Valuation τ sig (Elt F)) (r : Ref sig .tc)
    (h : r ∉ hostOps0_W ++ hostOps0_1_W ++ hostOps0_2_W ++ hostOps0_3_W ++ hostOps0_4_W ++ hostOps0_5_W ++ hostOps0_6_W ++ hostOps0_7_W ++ hostOps0_8_W) :
    afterL preI V (Proc.devRef .tc r) = V (Proc.devRef .tc r) := by
  simp only [List.mem_append, not_or] at h
  obtain ⟨⟨⟨⟨⟨⟨⟨⟨h0, h1⟩, h2⟩, h3⟩, h4⟩, h5⟩, h6⟩, h7⟩, h8⟩ := h
  simp only [afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What one trip of the loop, its condition included, writes. -/
abbrev tripW : List (Ref sig .tc) :=
  condOps_W ++ while0Ops0_W ++ while0Ops0_1_W ++ while0Ops0_2_W ++ while0Ops0_3_W ++ while0Ops0_4_W ++ while0Ops0_5_W ++ while0Ops0_6_W

/-- A buffer no operation of a trip writes is as before it. -/
theorem trip_keep (V : Valuation τ sig (Elt F)) (r : Ref sig .tc) (h : r ∉ tripW) :
    afterL bodyI (after condOps V) (Proc.devRef .tc r) = V (Proc.devRef .tc r) := by
  simp only [tripW, List.mem_append, not_or] at h
  obtain ⟨⟨⟨⟨⟨⟨⟨hc, h0⟩, h1⟩, h2⟩, h3⟩, h4⟩, h5⟩, h6⟩ := h
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

variable (m : (ℓ : Loc nD τ sig) → Buf (Elt F) ℓ) (ρ : Dev nD → PrngReg)

/-- A buffer no operation of a trip writes is the same before every trip. -/
theorem atK_keep (c : Dev nD) (r : Ref sig .tc) (h : r ∉ tripW) :
    ∀ k, atK m k c (Proc.devRef .tc r) = entryContents preI m c (Proc.devRef .tc r)
  | 0 => rfl
  | k + 1 => by
    rw [show atK m (k + 1) c = afterL bodyI (after condOps (atK m k c)) from rfl, trip_keep _ r h, atK_keep c r h k]

/-- The buffers when the loop is left. -/
abbrev L (c : Dev nD) : Valuation τ sig (Elt F) := after condOps (atK m 250 c)

/-- A buffer the loop does not write, when it is left. -/
theorem L_keep (c : Dev nD) (r : Ref sig .tc) (h : r ∉ tripW) :
    L m c (Proc.devRef .tc r) = entryContents preI m c (Proc.devRef .tc r) := by
  have hc : r ∉ condOps_W := fun e => h (by simp only [tripW, List.mem_append]; tauto)
  rw [L, after_of_writes_sub condOps _ condOps_writes hc, atK_keep m c r h]

/-- A buffer no operation after the loop writes is as the loop leaves it. -/
theorem post_keep (V : Valuation τ sig (Elt F)) (r : Ref sig .tc) (h : r ∉ W9 ++ W10 ++ W11 ++ W12 ++ W13) :
    afterL postI V (Proc.devRef .tc r) = V (Proc.devRef .tc r) := by
  simp only [List.mem_append, not_or] at h
  obtain ⟨⟨⟨⟨h0, h1⟩, h2⟩, h3⟩, h4⟩ := h
  simp only [afterL_cons, afterL_nil]
  rw [after_of_writes_sub hostOps0_13 _ writes13 h4, after_of_writes_sub hostOps0_12 _ writes12 h3,
    after_of_writes_sub hostOps0_11 _ writes11 h2, after_of_writes_sub hostOps0_10 _ writes10 h1,
    after_of_writes_sub hostOps0_9 _ writes9 h0]

/-- No stretch before the loop writes an argument. -/
theorem args_pre : ∀ r ∈ args, r ∉ hostOps0_W ++ hostOps0_1_W ++ hostOps0_2_W ++ hostOps0_3_W ++ hostOps0_4_W ++ hostOps0_5_W ++ hostOps0_6_W ++ hostOps0_7_W ++ hostOps0_8_W := by
  decide +kernel
/-- No trip of the loop writes an argument. -/
theorem args_trip : ∀ r ∈ args, r ∉ tripW := by decide +kernel
/-- No stretch after the loop writes an argument. -/
theorem args_post : ∀ r ∈ args, r ∉ W9 ++ W10 ++ W11 ++ W12 ++ W13 := by decide +kernel
/-- The arguments are buffers of the program. -/
theorem args_unscoped : ∀ r ∈ args, (Proc.devRef .tc r : DevRef τ sig).isScoped = false := by decide +kernel

/-- An argument at the loop's entry is as launched. -/
theorem entry_arg (c : Dev nD) (r : Ref sig .tc) (h : r ∈ args) :
    entryContents preI m c (Proc.devRef .tc r) = m ((c.tc : Thread nD τ).loc r) := pre_keep _ r (args_pre r h)

/-- An argument when the loop is left is as launched. -/
theorem L_arg (c : Dev nD) (r : Ref sig .tc) (h : r ∈ args) :
    L m c (Proc.devRef .tc r) = m ((c.tc : Thread nD τ).loc r) := (L_keep m c r (args_trip r h)).trans (entry_arg m c r h)

/-- An argument at the end is as launched. -/
theorem final_arg (c : Dev nD) (r : Ref sig .tc) (h : r ∈ args) :
    finalContents condOps preI bodyI postI 250 m c (Proc.devRef .tc r) = m ((c.tc : Thread nD τ).loc r) :=
  (post_keep _ r (args_post r h)).trans (L_arg m c r h)

/-- The run with its arguments: each ends as launched, the result at the fold, every counter at zero. -/
theorem run_end : θ_run (defs (F := F)) (onTc (τ := τ) (main (F := F))) ⟨m, fun _ => 0, ρ⟩
    (fun r => (∀ c : Dev nD, r.2.mem ((c.tc : Thread nD τ).loc main_v89) = afterL postI (L m c) (Proc.devRef .tc main_v89)
      ∧ ∀ a ∈ args, r.2.mem ((c.tc : Thread nD τ).loc a) = m ((c.tc : Thread nD τ).loc a)) ∧ r.2.sem = fun _ => 0) :=
  (θ_run _ _ _).mono (fun r h => ⟨fun c => ⟨h c main_v89 (by decide +kernel),
    fun a ha => (h c a (args_unscoped a ha)).trans (final_arg m c a ha)⟩,
    sem_eq_zero_of_no_sems rfl _⟩) (run_fold m ρ)

attribute [local instance] Cert.ReferenceIdeal.Gen.facts

/-- The reference's frame. -/
theorem frame : Cert.quiescent_ReferenceIdeal := fun m g _ =>
  (θ_run _ _ _).mono (fun r h => ⟨fun c => by
    have ha := (h.1 c).2
    refine ⟨?_, ?_, ?_, ?_, ?_, ?_, ?_, ?_, ?_, ?_, ?_, ?_, ?_, ?_, ?_, ?_, ?_, ?_⟩ <;> exact ha _ (by decide +kernel), h.2⟩)
    (run_end m g)

end Cert.Proof.Ref

end
-- ==== Proof.Mamba.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Mamba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A scratch buffer held whole at some contents. -/
abbrev held (c : Dev nD) {s : Shape} (a : Memref sig .tc .vmem s .f32) : sProp 𝕄 :=
  iprop(∃ f : BufTy.Contents (Elt F) a.view.ty, a.view.loc (c : Thread nD τ) ↦[a.view.set]{fullShare} f)

set_option maxHeartbeats 2000000 in
/-- The body's run: from its inputs and scratch buffers it stores a list of pieces into its result and hands every other
    buffer back, the scratch buffers at contents it does not state. -/
def bodyRun (c : Dev nD) (i : grid0.Coords) (arg1 : Memref sig .tc .vmem S1x250x512 .f32) (harg1 : arg1.IsWhole) (arg2 : Memref sig .tc .vmem S2048x512 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S160x1024 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x250x512 .f32) (harg11 : arg11.IsWhole) (arg12 : Memref sig .tc .vmem S8x32x1024 .f32) (harg12 : arg12.IsWhole) (arg13 : Memref sig .tc .vmem S8x32x1024 .f32) (harg13 : arg13.IsWhole) (arg14 : Memref sig .tc .vmem S250x1024 .f32) (harg14 : arg14.IsWhole) (arg15 : Memref sig .tc .vmem S8x128x32 .f32) (harg15 : arg15.IsWhole) (arg16 : Memref sig .tc .vmem S8x32x1024 .f32) (harg16 : arg16.IsWhole) (arg17 : Memref sig .tc .vmem S64x1024 .f32) (harg17 : arg17.IsWhole) (arg18 : Memref sig .tc .vmem S64x1024 .f32) (harg18 : arg18.IsWhole)
    (x1 : Vec F S1x250x512 .f32) (x2 : Vec F S2048x512 .f32) (x3 : Vec F S4x1024 .f32) (x4 : Vec F S1x1024 .f32) (x5 : Vec F S160x1024 .f32) (x6 : Vec F S1024x32 .f32) (x7 : Vec F S1x1024 .f32) (x8 : Vec F S64x1024 .f32) (x9 : Vec F S1x1024 .f32) (x10 : Vec F S512x1024 .f32)
    (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) :
    { L : List (View.Piece (Elt F) S1x250x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ (∃ d, owns (c : Thread nD τ) arg11 fullShare d)
            ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
                ∗ (∃ f, arg11.view.loc (c : Thread nD τ) ↦[arg11.view.set]{fullShare} arg11.view.writes (Elt F) f L)
                ∗ held c arg12 ∗ held c arg13 ∗ held c arg14 ∗ held c arg15 ∗ held c arg16 ∗ held c arg17 ∗ held c arg18) -∗ K ⟨⟩))
          ⊢ wp frame (wpE (defs₀ (F := F)) Variants.none c none) E (cc0_mamba_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_mamba_block_eq_skeleton]; unfold cc0_mamba_block_skel
    simp only [k0_part11_eq_skeleton, k0_part12_eq_skeleton, k0_part13_eq_skeleton, k0_part14_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, H12, H13, H14, H15, H16, H17, H18, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    iexists _; iexact H18

end Cert.Proof.Mamba

end
-- ==== Proof.Scan.lean ====
module

public import proofs.«01_k».proof.Proof.Gen.KernelIdeal.Loops
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.VecWindow

@[expose] public section

set_option maxRecDepth 65536

noncomputable section

namespace Cert.Proof.Mamba

open Cert.KernelIdeal Cert.KernelIdeal.Gen
open Idealize.ShloMosaic Idealize.ShloMosaic.TcCoe Idealize.ShloMosaic.Tactic

variable {F : FTy → Type} [FloatOps F]

/-- Row `s` of a chunk of 32 rows of 1024 lanes lies inside the chunk. -/
theorem slices_row (s : ℕ) (hs : s < 32) : S32x1024.Slices ![s, 0] S1x1024 :=
  ⟨rfl, fun a => by
    fin_cases a
    · show s + 1 ≤ 32; omega
    · show 0 + 1024 ≤ 1024; omega⟩

/-- Column `s` of a transposed chunk of 32 columns lies inside the chunk. -/
theorem slices_col (s : ℕ) (hs : s < 32) : S128x32.Slices ![0, s] S128x1 :=
  ⟨rfl, fun a => by
    fin_cases a
    · show 0 + 128 ≤ 128; omega
    · show s + 1 ≤ 32; omega⟩

/-- Thirty-two rows stack into a chunk. -/
theorem stacked {α : Type} (f : Fin 32 → (S1x1024.Idx → α)) :
    Shape.Concatenates ((List.ofFn fun s : Fin 32 => (⟨S1x1024, f s⟩ : (s : Shape) × (s.Idx → α))).map (·.1)) S32x1024 0 := by
  have e : (List.ofFn fun s : Fin 32 => (⟨S1x1024, f s⟩ : (s : Shape) × (s.Idx → α))).map (·.1) = List.replicate 32 S1x1024 := by
    rw [List.map_ofFn, ← List.ofFn_const]; rfl
  rw [e]; decide

section Steps

variable (dt xc : FVec F S32x1024 .f32) (bc : FVec F S128x32 .f32) (a h : FVec F S64x1024 .f32)

/-- One step of the scan: the state `h` decayed by `exp (dt * a)` plus the input term `B * (dt * x)`, all at row `s` of the chunk. -/
def hStep (s : ℕ) (hs : s < 32) : FVec F S64x1024 .f32 :=
  addf (mulf h (exp (mulf (broadcastTo S64x1024 (extractStridedSlice S1x1024 ![s, 0] dt (slices_row s hs)) broadcasts_S1x1024_S64x1024) a)))
    (mulf (broadcastTo S64x1024 (extractStridedSlice S64x1 ![0, 0] (extractStridedSlice S128x1 ![0, s] bc (slices_col s hs)) slices_S128x1_o0_0_S64x1) broadcasts_S64x1_S64x1024)
      (broadcastTo S64x1024 (mulf (extractStridedSlice S1x1024 ![s, 0] dt (slices_row s hs)) (extractStridedSlice S1x1024 ![s, 0] xc (slices_row s hs))) broadcasts_S1x1024_S64x1024))

/-- The state after the first `n` rows of the chunk, from the state `h` before it. -/
def hIter : ∀ n : ℕ, n ≤ 32 → FVec F S64x1024 .f32
  | 0, _ => h
  | n + 1, hn => hStep dt xc bc a (hIter n (by omega)) n hn

/-- The output row `s` of the chunk: the state after that row contracted with `C`. -/
def yRow (s : ℕ) (hs : s < 32) : FVec F S1x1024 .f32 :=
  shapeCast S1x1024 (multiReduction .add [0] S1024
    (mulf (hIter dt xc bc a h (s + 1) hs)
      (broadcastTo S64x1024 (extractStridedSlice S64x1 ![64, 0] (extractStridedSlice S128x1 ![0, s] bc (slices_col s hs)) slices_S128x1_o64_0_S64x1) broadcasts_S64x1_S64x1024))
    0x00000000#32 reduces_S64x1024_S1024 (.inl rfl) rfl) shapeCasts_S1024_S1x1024

/-- The 32 output rows of the chunk, stacked. -/
def yRows : FVec F S32x1024 .f32 :=
  concatenate S32x1024 0 (List.ofFn fun s : Fin 32 => (⟨S1x1024, yRow dt xc bc a h s.val s.isLt⟩ : (s : Shape) × (s.Idx → Elt F .f32)))
    (stacked _)

end Steps

section Chunks

variable (D12 D13 : S8x32x1024.Idx → Elt F .f32) (D15 : S8x128x32.Idx → Elt F .f32) (A h0 : FVec F S64x1024 .f32)

/-- Chunk `k` of a buffer of 8 chunks of rows. -/
abbrev rowChunk (D : S8x32x1024.Idx → Elt F .f32) (k : Fin k0_t1_loop.trips) : FVec F S1x32x1024 .f32 :=
  View.ld D (Rect.unit (s := S8x32x1024) (k0_off1 k) S1x32x1024.size (k0_off1_inb k))

/-- Chunk `k` of the buffer of transposed `B` and `C` columns. -/
abbrev colChunk (D : S8x128x32.Idx → Elt F .f32) (k : Fin k0_t1_loop.trips) : FVec F S1x128x32 .f32 :=
  View.ld D (Rect.unit (s := S8x128x32) (k0_off2 k) S1x128x32.size (k0_off2_inb k))

/-- The state of the scan before chunk `n`. -/
def hAt : ℕ → FVec F S64x1024 .f32
  | 0 => h0
  | n + 1 => if hn : n < k0_t1_loop.trips then
      k0_pay147 (hIter (k0_pay2 (rowChunk D12 ⟨n, hn⟩)) (k0_pay3 (rowChunk D13 ⟨n, hn⟩)) (k0_pay4 (colChunk D15 ⟨n, hn⟩)) A (hAt n) 32 le_rfl)
    else hAt n

/-- The output rows of chunk `k`. -/
def chunkRows (k : Fin k0_t1_loop.trips) : FVec F S1x32x1024 .f32 :=
  k0_pay149 (yRows (k0_pay2 (rowChunk D12 k)) (k0_pay3 (rowChunk D13 k)) (k0_pay4 (colChunk D15 k)) A (hAt D12 D13 D15 A h0 k.val))

/-- The writes of the chunks before `n`, the last first. -/
def rowPieces : ℕ → List (View.Piece (Elt F) S8x32x1024 .f32)
  | 0 => []
  | n + 1 => if hn : n < k0_t1_loop.trips then
      ⟨Rect.unit (s := S8x32x1024) (k0_off1 ⟨n, hn⟩) S1x32x1024.size (k0_off1_inb ⟨n, hn⟩), chunkRows D12 D13 D15 A h0 ⟨n, hn⟩⟩ :: rowPieces n
    else rowPieces n

/-- All output rows of the scan. -/
def allRows : S8x32x1024.Idx → Elt F .f32 := View.canon (rowPieces D12 D13 D15 A h0 8)

/-- The eight chunks cover the buffer of output rows. -/
theorem rows_cover (y : S8x32x1024.Idx) : ∃ p ∈ rowPieces D12 D13 D15 A h0 8, y ∈ p.1.set :=
  View.cover_of_tiledL (s := S8x32x1024) (rowPieces D12 D13 D15 A h0 8) S1x32x1024.size (by sl_kernel_rfl) y

end Chunks

section Trip

variable (𝒱 : Variants) (c : Dev nD) (bd : Option 𝒱.V) (i : grid0.Coords)
variable (arg1 : Memref sig .tc .vmem S1x250x512 .f32) (harg1 : arg1.IsWhole)
variable (arg2 : Memref sig .tc .vmem S2048x512 .f32) (harg2 : arg2.IsWhole)
variable (arg3 : Memref sig .tc .vmem S4x1024 .f32) (harg3 : arg3.IsWhole)
variable (arg4 : Memref sig .tc .vmem S1x1024 .f32) (harg4 : arg4.IsWhole)
variable (arg5 : Memref sig .tc .vmem S160x1024 .f32) (harg5 : arg5.IsWhole)
variable (arg6 : Memref sig .tc .vmem S1024x32 .f32) (harg6 : arg6.IsWhole)
variable (arg7 : Memref sig .tc .vmem S1x1024 .f32) (harg7 : arg7.IsWhole)
variable (arg8 : Memref sig .tc .vmem S64x1024 .f32) (harg8 : arg8.IsWhole)
variable (arg9 : Memref sig .tc .vmem S1x1024 .f32) (harg9 : arg9.IsWhole)
variable (arg10 : Memref sig .tc .vmem S512x1024 .f32) (harg10 : arg10.IsWhole)
variable (arg11 : Memref sig .tc .vmem S1x250x512 .f32) (harg11 : arg11.IsWhole)
variable (arg12 : Memref sig .tc .vmem S8x32x1024 .f32) (harg12 : arg12.IsWhole)
variable (arg13 : Memref sig .tc .vmem S8x32x1024 .f32) (harg13 : arg13.IsWhole)
variable (arg14 : Memref sig .tc .vmem S250x1024 .f32) (harg14 : arg14.IsWhole)
variable (arg15 : Memref sig .tc .vmem S8x128x32 .f32) (harg15 : arg15.IsWhole)
variable (arg16 : Memref sig .tc .vmem S8x32x1024 .f32) (harg16 : arg16.IsWhole)
variable (arg17 : Memref sig .tc .vmem S64x1024 .f32) (harg17 : arg17.IsWhole)
variable (arg18 : Memref sig .tc .vmem S64x1024 .f32) (harg18 : arg18.IsWhole)
variable (v53 : FVec F S6x1024 .f32) (v106 : FVec F S250x1024 .f32) (v107 : Vec F S1x1024 .f32) (X12 : BufTy.Contents (Elt F) arg12.view.ty) (X13 : BufTy.Contents (Elt F) arg13.view.ty) (X15 : BufTy.Contents (Elt F) arg15.view.ty) (X18 : BufTy.Contents (Elt F) arg18.view.ty) (k : Fin k0_t1_loop.trips) (f16 : BufTy.Contents (Elt F) arg16.view.ty) (f17 : BufTy.Contents (Elt F) arg17.view.ty)

/-- What one trip of the scan loop stores into the state buffer: the state after the 32 rows of the chunk. -/
theorem trip_state :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v53 v106 v107 X12 X13 X15 X18 k f16 f17).2
      = [⟨Rect.unit (s := S64x1024) ![0, 0] S64x1024.size inb_S64x1024_S64x1024_0_0,
          k0_pay147 (hIter (k0_pay2 (arg12.view.readAt (Elt F) (Rect.unit (s := S8x32x1024) (k0_off1 k) S1x32x1024.size (k0_off1_inb k)).toLoadRect X12))
            (k0_pay3 (arg13.view.readAt (Elt F) (Rect.unit (s := S8x32x1024) (k0_off1 k) S1x32x1024.size (k0_off1_inb k)).toLoadRect X13))
            (k0_pay4 (arg15.view.readAt (Elt F) (Rect.unit (s := S8x128x32) (k0_off2 k) S1x128x32.size (k0_off2_inb k)).toLoadRect X15))
            (arg18.view.readAt (Elt F) (Rect.unit (s := S64x1024) ![0, 0] S64x1024.size inb_S64x1024_S64x1024_0_0).toLoadRect X18)
            (arg17.view.readAt (Elt F) (Rect.unit (s := S64x1024) ![0, 0] S64x1024.size inb_S64x1024_S64x1024_0_0).toLoadRect f17) 32 le_rfl)⟩] := by
  unfold tripL_k0_t1 trip_k0_t1
  rfl

/-- What one trip of the scan loop stores into the buffer of output rows: chunk `k`, one row after the other. -/
theorem trip_rows :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v53 v106 v107 X12 X13 X15 X18 k f16 f17).1
      = [⟨Rect.unit (s := S8x32x1024) (k0_off1 k) S1x32x1024.size (k0_off1_inb k),
          k0_pay149 (yRows (k0_pay2 (arg12.view.readAt (Elt F) (Rect.unit (s := S8x32x1024) (k0_off1 k) S1x32x1024.size (k0_off1_inb k)).toLoadRect X12))
            (k0_pay3 (arg13.view.readAt (Elt F) (Rect.unit (s := S8x32x1024) (k0_off1 k) S1x32x1024.size (k0_off1_inb k)).toLoadRect X13))
            (k0_pay4 (arg15.view.readAt (Elt F) (Rect.unit (s := S8x128x32) (k0_off2 k) S1x128x32.size (k0_off2_inb k)).toLoadRect X15))
            (arg18.view.readAt (Elt F) (Rect.unit (s := S64x1024) ![0, 0] S64x1024.size inb_S64x1024_S64x1024_0_0).toLoadRect X18)
            (arg17.view.readAt (Elt F) (Rect.unit (s := S64x1024) ![0, 0] S64x1024.size inb_S64x1024_S64x1024_0_0).toLoadRect f17))⟩] := by
  unfold tripL_k0_t1 trip_k0_t1
  rfl

/-- The trips before `n` leave the state before chunk `n` in the state buffer and have written the chunks before `n`. -/
theorem trips_eq (n : ℕ) (hn : n ≤ k0_t1_loop.trips) :
    arg17.view.read (Elt F) (arg17.view.writes (Elt F) f17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v53 v106 v107 X12 X13 X15 X18 f16 f17 n).2)
        = hAt (arg12.view.read (Elt F) X12) (arg13.view.read (Elt F) X13) (arg15.view.read (Elt F) X15) (arg18.view.read (Elt F) X18) (arg17.view.read (Elt F) f17) n
      ∧ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v53 v106 v107 X12 X13 X15 X18 f16 f17 n).1 = rowPieces (arg12.view.read (Elt F) X12) (arg13.view.read (Elt F) X13) (arg15.view.read (Elt F) X15) (arg18.view.read (Elt F) X18) (arg17.view.read (Elt F) f17) n := by
  induction n with
  | zero => exact ⟨rfl, rfl⟩
  | succ n ih =>
    have ih := ih (by omega)
    have hlt : n < k0_t1_loop.trips := by omega
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v53 v106 v107 X12 X13 X15 X18 f16 f17 ⟨n, hlt⟩
    rw [show n + 1 = (⟨n, hlt⟩ : Fin k0_t1_loop.trips).val + 1 from rfl, e]
    rw [trip_state, trip_rows]
    dsimp only
    constructor
    · rw [List.cons_append, List.nil_append]
      refine (View.read_writes_full _ _ _ _ _).trans ?_
      simp only [View.readAt_eq_ld]
      rw [hAt, dif_pos hlt]
      simp (disch := decide) only [View.ld_unit_lit']
      rw [ih.1]
    · rw [List.cons_append, List.nil_append, ih.2]
      simp only [View.readAt_eq_ld]
      rw [rowPieces, dif_pos hlt]
      simp (disch := decide) only [View.ld_unit_lit']
      rw [ih.1]
      rfl

end Trip

end Cert.Proof.Mamba

end
-- ==== Proof.Out.lean ====
module

public import proofs.«01_k».proof.Proof.Mamba
public import proofs.«01_k».proof.Proof.Scan
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.VecWindow

@[expose] public section

set_option maxRecDepth 65536

noncomputable section

namespace Cert.Proof.Mamba

open Cert.KernelIdeal Cert.KernelIdeal.Gen
open Idealize.ShloMosaic Idealize.ShloMosaic.TcCoe Idealize.ShloMosaic.Tactic

variable {F : FTy → Type} [FloatOps F]

section Values

variable (x1 : Vec F S1x250x512 .f32) (x2 : Vec F S2048x512 .f32) (x3 : Vec F S4x1024 .f32) (x4 : Vec F S1x1024 .f32) (x5 : Vec F S160x1024 .f32) (x6 : Vec F S1024x32 .f32) (x7 : Vec F S1x1024 .f32) (x8 : Vec F S64x1024 .f32) (x9 : Vec F S1x1024 .f32) (x10 : Vec F S512x1024 .f32)

/-- Row `o` of the convolution weights. -/
abbrev tap (o : Fin 2 → ℕ) (h : ∀ a, o a + S1x1024.size a ≤ S4x1024.size a) : FVec F S1x1024 .f32 :=
  View.ld x3 (Rect.unit (s := S4x1024) o S1x1024.size h)

/-- The partial sum of the three shifted taps of the convolution. -/
def convTail : FVec F S250x1024 .f32 :=
  k0_pay122 x1 x2 (tap x3 ![3, 0] inb_S4x1024_S1x1024_3_0) (tap x3 ![2, 0] inb_S4x1024_S1x1024_2_0) (tap x3 ![1, 0] inb_S4x1024_S1x1024_1_0)

/-- The convolved and activated rows, padded to 256 and cut into 8 chunks of 32. -/
def xcChunks : FVec F S8x32x1024 .f32 := k0_pay127 (convTail x1 x2 x3) (k0_pay123 x1 x2) (k0_pay124 (tap x3 ![0, 0] inb_S4x1024_S1x1024_0_0)) x4

/-- The projection of the activated rows: time step inputs, `B` and `C`, 160 columns. -/
def xDbl : FVec F S250x160 .f32 := k0_pay128 (convTail x1 x2 x3) (k0_pay123 x1 x2) (k0_pay124 (tap x3 ![0, 0] inb_S4x1024_S1x1024_0_0)) x4 x5

/-- The `B` and `C` columns of the projection, padded to 256 rows. -/
def bcPad : FVec F S256x128 .f32 := k0_pay129 (convTail x1 x2 x3) (k0_pay123 x1 x2) (k0_pay124 (tap x3 ![0, 0] inb_S4x1024_S1x1024_0_0)) x4 x5

/-- The eight transposed chunks of `B` and `C`, the last first. -/
def bcPieces : List (View.Piece (Elt F) S8x128x32 .f32) :=
  [⟨Rect.unit (s := S8x128x32) ![7, 0, 0] S1x128x32.size inb_S8x128x32_S1x128x32_7_0_0, k0_pay138 (bcPad x1 x2 x3 x4 x5)⟩,
   ⟨Rect.unit (s := S8x128x32) ![6, 0, 0] S1x128x32.size inb_S8x128x32_S1x128x32_6_0_0, k0_pay137 (bcPad x1 x2 x3 x4 x5)⟩,
   ⟨Rect.unit (s := S8x128x32) ![5, 0, 0] S1x128x32.size inb_S8x128x32_S1x128x32_5_0_0, k0_pay136 (bcPad x1 x2 x3 x4 x5)⟩,
   ⟨Rect.unit (s := S8x128x32) ![4, 0, 0] S1x128x32.size inb_S8x128x32_S1x128x32_4_0_0, k0_pay135 (bcPad x1 x2 x3 x4 x5)⟩,
   ⟨Rect.unit (s := S8x128x32) ![3, 0, 0] S1x128x32.size inb_S8x128x32_S1x128x32_3_0_0, k0_pay134 (bcPad x1 x2 x3 x4 x5)⟩,
   ⟨Rect.unit (s := S8x128x32) ![2, 0, 0] S1x128x32.size inb_S8x128x32_S1x128x32_2_0_0, k0_pay133 (k0_pay132 (convTail x1 x2 x3) (k0_pay123 x1 x2) (k0_pay124 (tap x3 ![0, 0] inb_S4x1024_S1x1024_0_0)) x4 x5)⟩,
   ⟨Rect.unit (s := S8x128x32) ![1, 0, 0] S1x128x32.size inb_S8x128x32_S1x128x32_1_0_0, k0_pay131 (convTail x1 x2 x3) (k0_pay123 x1 x2) (k0_pay124 (tap x3 ![0, 0] inb_S4x1024_S1x1024_0_0)) x4 x5⟩,
   ⟨Rect.unit (s := S8x128x32) ![0, 0, 0] S1x128x32.size inb_S8x128x32_S1x128x32_0_0_0, k0_pay130 (convTail x1 x2 x3) (k0_pay123 x1 x2) (k0_pay124 (tap x3 ![0, 0] inb_S4x1024_S1x1024_0_0)) x4 x5⟩]

/-- The buffer of transposed chunks of `B` and `C`. -/
def bcT : S8x128x32.Idx → Elt F .f32 := View.canon (bcPieces x1 x2 x3 x4 x5)

/-- The written pieces cover the buffer. -/
theorem bc_cover (y : S8x128x32.Idx) : ∃ p ∈ bcPieces x1 x2 x3 x4 x5, y ∈ p.1.set :=
  View.cover_of_tiledL (s := S8x128x32) (bcPieces x1 x2 x3 x4 x5) S1x128x32.size (by sl_kernel_rfl) y

/-- The time steps, padded to 256 rows and cut into 8 chunks of 32. -/
def dtChunks : FVec F S8x32x1024 .f32 := k0_pay140 k0_pay126 (k0_pay139 (xDbl x1 x2 x3 x4 x5) x6) x7

/-- All output rows of the scan over the chunks. -/
def ysAll : S8x32x1024.Idx → Elt F .f32 :=
  allRows (dtChunks x1 x2 x3 x4 x5 x6 x7) (xcChunks x1 x2 x3 x4) (bcT x1 x2 x3 x4 x5) (k0_pay141 x8) k0_pay142

/-- The block the body stores. -/
def mambaOut : FVec F S1x250x512 .f32 :=
  k0_pay1 (k0_pay150 (ysAll x1 x2 x3 x4 x5 x6 x7 x8)) (xcChunks x1 x2 x3 x4) x9 (k0_pay121 x1 x2) x10

end Values

section Body

variable (c : Dev nD) (i : grid0.Coords)
variable (arg1 : Memref sig .tc .vmem S1x250x512 .f32) (harg1 : arg1.IsWhole)
variable (arg2 : Memref sig .tc .vmem S2048x512 .f32) (harg2 : arg2.IsWhole)
variable (arg3 : Memref sig .tc .vmem S4x1024 .f32) (harg3 : arg3.IsWhole)
variable (arg4 : Memref sig .tc .vmem S1x1024 .f32) (harg4 : arg4.IsWhole)
variable (arg5 : Memref sig .tc .vmem S160x1024 .f32) (harg5 : arg5.IsWhole)
variable (arg6 : Memref sig .tc .vmem S1024x32 .f32) (harg6 : arg6.IsWhole)
variable (arg7 : Memref sig .tc .vmem S1x1024 .f32) (harg7 : arg7.IsWhole)
variable (arg8 : Memref sig .tc .vmem S64x1024 .f32) (harg8 : arg8.IsWhole)
variable (arg9 : Memref sig .tc .vmem S1x1024 .f32) (harg9 : arg9.IsWhole)
variable (arg10 : Memref sig .tc .vmem S512x1024 .f32) (harg10 : arg10.IsWhole)
variable (arg11 : Memref sig .tc .vmem S1x250x512 .f32) (harg11 : arg11.IsWhole)
variable (arg12 : Memref sig .tc .vmem S8x32x1024 .f32) (harg12 : arg12.IsWhole)
variable (arg13 : Memref sig .tc .vmem S8x32x1024 .f32) (harg13 : arg13.IsWhole)
variable (arg14 : Memref sig .tc .vmem S250x1024 .f32) (harg14 : arg14.IsWhole)
variable (arg15 : Memref sig .tc .vmem S8x128x32 .f32) (harg15 : arg15.IsWhole)
variable (arg16 : Memref sig .tc .vmem S8x32x1024 .f32) (harg16 : arg16.IsWhole)
variable (arg17 : Memref sig .tc .vmem S64x1024 .f32) (harg17 : arg17.IsWhole)
variable (arg18 : Memref sig .tc .vmem S64x1024 .f32) (harg18 : arg18.IsWhole)
variable (x1 : Vec F S1x250x512 .f32) (x2 : Vec F S2048x512 .f32) (x3 : Vec F S4x1024 .f32) (x4 : Vec F S1x1024 .f32) (x5 : Vec F S160x1024 .f32) (x6 : Vec F S1024x32 .f32) (x7 : Vec F S1x1024 .f32) (x8 : Vec F S64x1024 .f32) (x9 : Vec F S1x1024 .f32) (x10 : Vec F S512x1024 .f32)
    (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty)

set_option maxHeartbeats 2000000 in
/-- What the scan loop leaves in the buffer of output rows, whatever it held before. -/
theorem rows_read : bodyRun.sl.v137 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 g16 = ysAll x1 x2 x3 x4 x5 x6 x7 x8 := by
  unfold bodyRun.sl.v137
  rw [(trips_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ (Scf.trips k0_t1_loop.lb k0_t1_loop.ub k0_t1_loop.st) le_rfl).2]
  rw [View.readAt_eq_ld]
  simp (disch := decide) only [View.ld_unit_lit']
  have e12 : View.read (Elt F) arg12.view (arg12.view.writes (Elt F) arg12.view.junk (bodyRun.sl.H12_1 c arg1 harg1 arg2 harg2 arg3 harg3 arg4 harg4 arg5 harg5 arg6 harg6 arg7 harg7 x1 x2 x3 x4 x5 x6 x7)) = dtChunks x1 x2 x3 x4 x5 x6 x7 := by
    frame_out; rfl
  have e13 : View.read (Elt F) arg13.view (arg13.view.writes (Elt F) arg13.view.junk (bodyRun.sl.H13_1 c arg1 harg1 arg2 harg2 arg3 harg3 arg4 harg4 x1 x2 x3 x4)) = xcChunks x1 x2 x3 x4 := by
    frame_out; rfl
  have e15 : View.read (Elt F) arg15.view (arg15.view.writes (Elt F) arg15.view.junk (bodyRun.sl.H15_8 c arg1 harg1 arg2 harg2 arg3 harg3 arg4 harg4 arg5 harg5 x1 x2 x3 x4 x5)) = bcT x1 x2 x3 x4 x5 := by
    frame_out; rfl
  have e18 : View.read (Elt F) arg18.view (arg18.view.writes (Elt F) arg18.view.junk (bodyRun.sl.H18_1 c arg8 harg8 x8)) = k0_pay141 x8 := by
    frame_out
  have e17 : View.read (Elt F) arg17.view (arg17.view.writes (Elt F) arg17.view.junk (bodyRun.sl.H17_1)) = k0_pay142 (F := F) := by
    frame_out
  rw [e12, e13, e15, e18, e17]
  exact View.read_writes_eq_canon _ _ _ (rows_cover _ _ _ _ _)

set_option maxHeartbeats 2000000 in
/-- The body stores one whole block, `mambaOut` of its inputs, whatever the scratch buffers held before. -/
theorem bodyRun_pieces : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x8 x9 x10 g12 g13 g14 g15 g16 g17 g18).1
    = [⟨Rect.unit (s := S1x250x512) ![0, 0, 0] S1x250x512.size inb_S1x250x512_S1x250x512_0_0_0, mambaOut x1 x2 x3 x4 x5 x6 x7 x8 x9 x10⟩] := by
  unfold bodyRun
  dsimp only
  unfold bodyRun.sl.r_8
  rw [rows_read]
  frame_out
  rfl

end Body

end Cert.Proof.Mamba

end
-- ==== Proof.Region0.lean ====
module

public import proofs.«01_k».proof.Proof.Out
public import Idealize.ShloMosaic.Lib.Pipeline.RegionsLoop
public import Idealize.ShloMosaic.Lib.Pipeline.FrameSuffix

@[expose] public section

set_option maxRecDepth 16384

noncomputable section

namespace Cert.Proof.Mamba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers that are no staging buffer of the first call. -/
abbrev scratch (c : Dev nD) : sProp 𝕄 := Pipeline.scopedRest (Ix := Unit) (Name := ℕ) (U := UR sig nD τ) (Lvl := ℕ) (Val := Elt F) spec0 c

/-- A scratch buffer held through its whole view is the buffer at some contents. -/
theorem held_whole (c : Dev nD) (b : Ref sig .tc) (h : b.ty.elt = .f32) :
    (iprop(∃ f : b.ty.Contents (Elt F), (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  simp only [Memref.view_whole, View.set_whole]
  exact .rfl

set_option maxHeartbeats 1000000 in
/-- One run of the body on whole staging buffers and the scratch buffers leaves the inputs as they were and the
    output at `mambaOut` of the inputs. -/
theorem run_whole (c : Dev nD) (i : grid0.Coords) (arg1 : Memref sig .tc .vmem S1x250x512 .f32) (harg1 : arg1.IsWhole) (arg2 : Memref sig .tc .vmem S2048x512 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S160x1024 .f32) (harg5 : arg5.IsWhole) (arg6 : Memref sig .tc .vmem S1024x32 .f32) (harg6 : arg6.IsWhole) (arg7 : Memref sig .tc .vmem S1x1024 .f32) (harg7 : arg7.IsWhole) (arg8 : Memref sig .tc .vmem S64x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x250x512 .f32) (harg11 : arg11.IsWhole)
    (x1 : Vec F S1x250x512 .f32) (x2 : Vec F S2048x512 .f32) (x3 : Vec F S4x1024 .f32) (x4 : Vec F S1x1024 .f32) (x5 : Vec F S160x1024 .f32) (x6 : Vec F S1024x32 .f32) (x7 : Vec F S1x1024 .f32) (x8 : Vec F S64x1024 .f32) (x9 : Vec F S1x1024 .f32) (x10 : Vec F S512x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d) ∗ scratch (F := F) c
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ owns (c : Thread nD τ) arg11 fullShare (mambaOut x1 x2 x3 x4 x5 x6 x7 x8 x9 x10) ∗ scratch (F := F) c) -∗ K ⟨⟩))
      ⊢ wp frame (wpE (defs₀ (F := F)) Variants.none c none) Set.univ (cc0_mamba_block i arg1 harg1 arg2 harg2 arg3 harg3 arg4 harg4 arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  unfold scratch
  rw [scopedRest0_eq]
  iintro ⟨H1, H2, H3, H4, H5, H6, H7, H8, H9, H10, H11, ⟨⟨%g12, H12⟩, ⟨%g13, H13⟩, ⟨%g14, H14⟩, ⟨%g15, H15⟩, ⟨%g16, H16⟩, ⟨%g17, H17⟩, ⟨%g18, H18⟩, Hr⟩, Hk⟩
  iapply ((bodyRun c i arg1 harg1 arg2 harg2 arg3 harg3 arg4 harg4 arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) x1 x2 x3 x4 x5 x6 x7 x8 x9 x10 g12 g13 g14 g15 g16 g17 g18).2 Set.univ K)
  simp only [Memref.view_whole, View.set_whole]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, ⟨%f11, H11⟩, H12, H13, H14, H15, H16, H17, H18⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro
    rw [bodyRun_pieces]
    exact View.read_writes_full _ _ _ _ _
  isplitl [H12]; · iapply (held_whole c cc0_scratch0 rfl); iexact H12
  isplitl [H13]; · iapply (held_whole c cc0_scratch1 rfl); iexact H13
  isplitl [H14]; · iapply (held_whole c cc0_scratch2 rfl); iexact H14
  isplitl [H15]; · iapply (held_whole c cc0_scratch3 rfl); iexact H15
  isplitl [H16]; · iapply (held_whole c cc0_scratch4 rfl); iexact H16
  isplitl [H17]; · iapply (held_whole c cc0_scratch5 rfl); iexact H17
  isplitl [H18]; · iapply (held_whole c cc0_scratch6 rfl); iexact H18
  iexact Hr

section Region

variable (V : (c : Dev nD) → (b : Ref sig .tc) → Buf (Elt F) ((c : Thread nD τ).loc b))

/-- Window `w`'s block at point `t`, read off its array at the contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block the body leaves at point `t`. -/
def oblk (c : Dev nD) (t : Fin cfg0.N) : Vec F S1x250x512 .f32 :=
  mambaOut (iblk V c 0 t) (iblk V c 1 t) (iblk V c 2 t) (iblk V c 3 t) (iblk V c 4 t) (iblk V c 5 t) (iblk V c 6 t) (iblk V c 7 t) (iblk V c 8 t) (iblk V c 9 t)

/-- The proof data of the first call: the inputs stay at their blocks, the output is `oblk`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => oblk V c t
  Φ _ := Pipeline.ΦA spec0 c
  q _ := fullShare
  owed _ := 0

/-- The arrays are the contents at the region's entry. -/
theorem A_eq (c : Dev nD) (w : Fin cfg0.W) : (dat V c).A w = V c (Pipeline.arrRef spec0 w) := by
  dsimp only [dat]

/-- The output's block after point `t`. -/
theorem after_out (c : Dev nD) (t : Fin cfg0.N) : (dat V c).after 10 t = oblk V c t := by dsimp only [dat]

/-- Each input's staging buffer holds its block when the body starts. -/
theorem before_in (c : Dev nD) (w : Fin cfg0.W) (hw : (cfg0.win w).isOut = false) (t : Fin cfg0.N) (d) :
    (dat V c).before w t d = (dat V c).after w t := by
  fin_cases w <;> first
    | exact absurd hw (by decide)
    | exact ((dat V c).before_in_eq_fetched _ rfl (fun _ => rfl) (fun _ _ _ => rfl)
        (fun t => by dsimp only [dat]; unfold Dat.blockOf iblk; rfl) t d).trans
        (by dsimp only [dat]; unfold Dat.fetched Dat.blockOf iblk; rfl)

set_option maxHeartbeats 1000000 in
/-- The body at any point, from its invariant and its windows' buffers to the same after it. -/
theorem sound_body (c : Dev nD) (t : Fin cfg0.N) :
    iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))
    ⊢ wp frame (wpE (defs₀ (F := F)) Variants.none c none) Set.univ (bodyAt0 t) (fun _ => iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))) := by
  unfold bodyAt0
  simp only [before_in V c 0 rfl, before_in V c 1 rfl, before_in V c 2 rfl, before_in V c 3 rfl, before_in V c 4 rfl, before_in V c 5 rfl, before_in V c 6 rfl, before_in V c 7 rfl, before_in V c 8 rfl, before_in V c 9 rfl]
  rw [show (dat V c).Φ t.succ = Pipeline.ΦA spec0 c from rfl, show (dat V c).Φ t.castSucc = Pipeline.ΦA spec0 c from rfl,
    show (dat V c).owesAt () t.succ = (dat V c).owesAt () t.castSucc from rfl, after_out, show (dat V c).after 0 t = iblk V c 0 t from rfl, show (dat V c).after 1 t = iblk V c 1 t from rfl, show (dat V c).after 2 t = iblk V c 2 t from rfl, show (dat V c).after 3 t = iblk V c 3 t from rfl, show (dat V c).after 4 t = iblk V c 4 t from rfl, show (dat V c).after 5 t = iblk V c 5 t from rfl, show (dat V c).after 6 t = iblk V c 6 t from rfl, show (dat V c).after 7 t = iblk V c 7 t from rfl, show (dat V c).after 8 t = iblk V c 8 t from rfl, show (dat V c).after 9 t = iblk V c 9 t from rfl]
  unfold Pipeline.ΦA oblk
  iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_whole c (grid0.coords t) _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hs]; · iexact Hs
  iintro ⟨H0, H1, H2, H3, H4, H5, H6, H7, H8, H9, H10, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t` is the body. -/
theorem row (t : Fin cfg0.N) : defs₀ (F := F) .tc cfg0.body (cfg0.bodyArgs t (cfg0.slots t)) = bodyAt0 t := by
  unfold defs₀; rw [Defs.onTc_tc]

/-- The body obligation of the first call. -/
theorem obligation (c : Dev nD) : BodyObligation (dat (F := F) V c) (defs₀ (F := F)) Variants.none () Set.univ := fun t => by
  rw [bigSep_W0, bigSep_W0, row]
  exact triple_restated (sound_body V c t) rfl .rfl fun _ => .rfl

end Region

end Cert.Proof.Mamba

end
-- ==== Proof.Fc1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Proof.Fc1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `k` of the block of activations. -/
abbrev xrow (x : Vec F S8x8x5000 .f32) (o : Fin 3 → ℕ) (h : ∀ a, o a + S8x1x5000.size a ≤ S8x8x5000.size a) : Vec F S8x1x5000 .f32 :=
  View.ld x (Rect.unit (s := S8x8x5000) o S8x1x5000.size h)

/-- Row `k` of the block of weights. -/
abbrev wrow (w : Vec F S128x8x5000 .f32) (o : Fin 3 → ℕ) (h : ∀ a, o a + S128x1x5000.size a ≤ S128x8x5000.size a) : Vec F S128x1x5000 .f32 :=
  View.ld w (Rect.unit (s := S128x8x5000) o S128x1x5000.size h)

/-- What one grid point leaves in the accumulator: the contents `a` plus the eight partial products. -/
def step (x : Vec F S8x8x5000 .f32) (w : Vec F S128x8x5000 .f32) (a : Vec F S8x128 .f32) : FVec F S8x128 .f32 :=
  k1_pay5 (k1_pay2 (xrow x ![0, 0, 0] inb_S8x8x5000_S8x1x5000_0_0_0) (wrow w ![0, 0, 0] inb_S128x8x5000_S128x1x5000_0_0_0)
      (xrow x ![0, 1, 0] inb_S8x8x5000_S8x1x5000_0_1_0) (wrow w ![0, 1, 0] inb_S128x8x5000_S128x1x5000_0_1_0)
      (xrow x ![0, 2, 0] inb_S8x8x5000_S8x1x5000_0_2_0) (wrow w ![0, 2, 0] inb_S128x8x5000_S128x1x5000_0_2_0))
    (k1_pay3 (xrow x ![0, 3, 0] inb_S8x8x5000_S8x1x5000_0_3_0)) (k1_pay4 (wrow w ![0, 3, 0] inb_S128x8x5000_S128x1x5000_0_3_0))
    (constant S8x128 .f32 0x00000000#32)
    (xrow x ![0, 4, 0] inb_S8x8x5000_S8x1x5000_0_4_0) (wrow w ![0, 4, 0] inb_S128x8x5000_S128x1x5000_0_4_0)
    (xrow x ![0, 5, 0] inb_S8x8x5000_S8x1x5000_0_5_0) (wrow w ![0, 5, 0] inb_S128x8x5000_S128x1x5000_0_5_0)
    (xrow x ![0, 6, 0] inb_S8x8x5000_S8x1x5000_0_6_0) (wrow w ![0, 6, 0] inb_S128x8x5000_S128x1x5000_0_6_0)
    (xrow x ![0, 7, 0] inb_S8x8x5000_S8x1x5000_0_7_0) (wrow w ![0, 7, 0] inb_S128x8x5000_S128x1x5000_0_7_0) a

/-- The body's test for the first column of the grid. -/
abbrev isFirst (i : grid1.Coords) : Prop := (Scalar.cmpi .ne (Scalar.extui (Scalar.cmpi .eq (BitVec.ofNat 32 (i 1).val) 0#32)) 0#32) = 1#1

/-- The test holds at the points divisible by 3. -/
theorem isFirst_iff : ∀ t : Fin cfg1.N, isFirst (grid1.coords t) ↔ t.val % 3 = 0 :=
  (fun t => by
    have ht : t.val < 12 := Nat.lt_of_lt_of_eq t.isLt N_1
    have e1 : (grid1.coords t 1).val = t.val / 1 % 3 := Pipeline.Grid.coords_val t 1 (by decide) rfl
    simp only [isFirst, e1]
    word_cmp
   : ∀ t : Fin grid1.N, isFirst (grid1.coords t) ↔ t.val % 3 = 0)

set_option maxHeartbeats 1000000 in
/-- At a point of the first column the body leaves `step` over zeros. -/
theorem run_first (c : Dev nD) (i : grid1.Coords) (arg2 : Memref sig .tc .vmem S8x8x5000 .f32) (harg2 : arg2.IsWhole) (arg3 : Memref sig .tc .vmem S128x8x5000 .f32) (harg3 : arg3.IsWhole) (arg4 : Memref sig .tc .vmem S8x128 .f32) (harg4 : arg4.IsWhole) (hc : isFirst i)
    (x0 : Vec F S8x8x5000 .f32) (x1 : Vec F S128x8x5000 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (step x0 x1 k1_pay1)) -∗ K ⟨⟩))
      ⊢ wp frame (wpE (defs₀ (F := F)) Variants.none c none) E (cc1_fc1 i arg2 harg2 arg3 harg3 arg4 harg4) K := by
  simp only [cc1_fc1_eq_skeleton]; unfold cc1_fc1_skel
  simp only [k1_part1_eq_skeleton, k1_part2_eq_skeleton]
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (View.read_writes_full _ _ _ _ _).trans ?_
  frame_out
  rfl

set_option maxHeartbeats 1000000 in
/-- At any other point the body leaves `step` over what the accumulator held. -/
theorem run_next (c : Dev nD) (i : grid1.Coords) (arg2 : Memref sig .tc .vmem S8x8x5000 .f32) (harg2 : arg2.IsWhole) (arg3 : Memref sig .tc .vmem S128x8x5000 .f32) (harg3 : arg3.IsWhole) (arg4 : Memref sig .tc .vmem S8x128 .f32) (harg4 : arg4.IsWhole) (hc : ¬isFirst i)
    (x0 : Vec F S8x8x5000 .f32) (x1 : Vec F S128x8x5000 .f32) (a : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare a
        ∗ (iprop(owns (c : Thread nD τ) arg2 fullShare x0 ∗ owns (c : Thread nD τ) arg3 fullShare x1 ∗ owns (c : Thread nD τ) arg4 fullShare (step x0 x1 a)) -∗ K ⟨⟩))
      ⊢ wp frame (wpE (defs₀ (F := F)) Variants.none c none) E (cc1_fc1 i arg2 harg2 arg3 harg3 arg4 harg4) K := by
  simp only [cc1_fc1_eq_skeleton]; unfold cc1_fc1_skel
  simp only [k1_part1_eq_skeleton, k1_part2_eq_skeleton]
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (View.read_writes_full _ _ _ _ _).trans ?_
  frame_out
  rfl

section Region

variable (V : (c : Dev nD) → (b : Ref sig .tc) → Buf (Elt F) ((c : Thread nD τ).loc b))

/-- Window `w`'s block at point `t`, read off its array at the contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: restarted from zeros in the first column, else continued. -/
def acc (c : Dev nD) : (n : ℕ) → n < cfg1.N → Vec F S8x128 .f32
  | 0, hn => step (iblk V c 0 ⟨0, hn⟩) (iblk V c 1 ⟨0, hn⟩) k1_pay1
  | n + 1, hn => step (iblk V c 0 ⟨n + 1, hn⟩) (iblk V c 1 ⟨n + 1, hn⟩)
      (if (n + 1) % 3 = 0 then k1_pay1 else acc c n (Nat.lt_of_succ_lt hn))

/-- The accumulator at a point of the first column. -/
theorem acc_first (c : Dev nD) (t : Fin cfg1.N) (h : t.val % 3 = 0) :
    acc V c t.val t.isLt = step (iblk V c 0 t) (iblk V c 1 t) k1_pay1 := by
  obtain ⟨n, hn⟩ := t
  cases n with
  | zero => rfl
  | succ n => simp only [acc]; rw [if_pos h]

/-- The accumulator at any other point. -/
theorem acc_next (c : Dev nD) (t : Fin cfg1.N) (h : ¬t.val % 3 = 0) :
    acc V c t.val t.isLt = step (iblk V c 0 t) (iblk V c 1 t) (acc V c (t.val - 1) (Nat.lt_of_le_of_lt (Nat.sub_le _ _) t.isLt)) := by
  obtain ⟨n, hn⟩ := t
  cases n with
  | zero => exact absurd (Nat.zero_mod 3) h
  | succ n => simp only [acc]; rw [if_neg h]; rfl

/-- The proof data of the second call. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ _ := Pipeline.ΦA spec1 c
  q _ := fullShare
  owed _ := 0

/-- The arrays are the contents at the region's entry. -/
theorem A_eq (c : Dev nD) (w : Fin cfg1.W) : (dat V c).A w = V c (Pipeline.arrRef spec1 w) := by
  dsimp only [dat]

/-- The output's block after point `t`. -/
theorem after_out (c : Dev nD) (t : Fin cfg1.N) : (dat V c).after 2 t = acc V c t.val t.isLt := by dsimp only [dat]

/-- Each input's staging buffer holds its block when the body starts. -/
theorem before_in (c : Dev nD) (w : Fin cfg1.W) (hw : (cfg1.win w).isOut = false) (t : Fin cfg1.N) (d) :
    (dat V c).before w t d = (dat V c).after w t := by
  fin_cases w <;> first
    | exact absurd hw (by decide)
    | exact ((dat V c).before_in_eq_fetched _ rfl (fun _ => rfl) (fun _ _ _ => rfl)
        (fun t => by dsimp only [dat]; unfold Dat.blockOf iblk; rfl) t d).trans
        (by dsimp only [dat]; unfold Dat.fetched Dat.blockOf iblk; rfl)

/-- Outside the first column the accumulator holds what the point before left. -/
theorem before_out (c : Dev nD) (t : Fin cfg1.N) (h : ¬t.val % 3 = 0) (d) :
    (dat V c).before 2 t d = acc V c (t.val - 1) (Nat.lt_of_le_of_lt (Nat.sub_le _ _) t.isLt) := by
  have hN : t.val < 12 := lt_of_lt_of_eq t.isLt (show cfg1.N = 12 from N_1)
  rw [Dat.before_out_kept _ 2 rfl t (by omega) (Bool.eq_false_iff.mpr fun h' => by have := (flush1_2 _).mp h'; dsimp only at this; omega)
    (fun _ => rfl) (fun _ _ => rfl)]
  dsimp only [dat]

set_option maxHeartbeats 1000000 in
/-- The body at any point, from its invariant and its windows' buffers to the same after it. -/
theorem sound_body (c : Dev nD) (t : Fin cfg1.N) :
    iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))
    ⊢ wp frame (wpE (defs₀ (F := F)) Variants.none c none) Set.univ (bodyAt1 t) (fun _ => iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))) := by
  unfold bodyAt1
  simp only [before_in V c 0 rfl, before_in V c 1 rfl]
  rw [show (dat V c).Φ t.succ = (dat V c).Φ t.castSucc from rfl,
    show (dat V c).owesAt () t.succ = (dat V c).owesAt () t.castSucc from rfl,
    after_out, show (dat V c).after 0 t = iblk V c 0 t from rfl, show (dat V c).after 1 t = iblk V c 1 t from rfl]
  by_cases h : t.val % 3 = 0
  · rw [acc_first V c t h]
    iintro ⟨HΦ, Ho, ⟨%d0, H0⟩, ⟨%d1, H1⟩, ⟨%d2, H2⟩⟩
    iapply (run_first c (grid1.coords t) _ _ _ _ _ _ ((isFirst_iff t).mpr h) (iblk V c 0 t) (iblk V c 1 t))
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc_next V c t h]
    simp only [before_out V c t h]
    iintro ⟨HΦ, Ho, ⟨%d0, H0⟩, ⟨%d1, H1⟩, ⟨%d2, H2⟩⟩
    iapply (run_next c (grid1.coords t) _ _ _ _ _ _ (fun h' => h ((isFirst_iff t).mp h')) (iblk V c 0 t) (iblk V c 1 t) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t` is the body. -/
theorem row (t : Fin cfg1.N) : defs₀ (F := F) .tc cfg1.body (cfg1.bodyArgs t (cfg1.slots t)) = bodyAt1 t := by
  unfold defs₀; rw [Defs.onTc_tc]

/-- The body obligation of the second call. -/
theorem obligation (c : Dev nD) : BodyObligation (dat (F := F) V c) (defs₀ (F := F)) Variants.none () Set.univ := fun t => by
  rw [bigSep_W1, bigSep_W1, row]
  exact triple_restated (sound_body V c t) rfl .rfl fun _ => .rfl

end Region

end Cert.Proof.Fc1

end
-- ==== Proof.Head.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Proof.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body leaves its inputs as they were and the output at `k2_pay1` of them. -/
theorem run (c : Dev nD) (arg0 : Memref sig .tc .vmem S8x512 .f32) (harg0 : arg0.IsWhole) (arg1 : Memref sig .tc .vmem S1x512 .f32) (harg1 : arg1.IsWhole) (arg2 : Memref sig .tc .vmem S256x512 .f32) (harg2 : arg2.IsWhole) (arg3 : Memref sig .tc .vmem S1x256 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S8x64 .f32) (harg6 : arg6.IsWhole) (arg7 : Memref sig .tc .vmem S1x8 .f32) (harg7 : arg7.IsWhole) (arg8 : Memref sig .tc .vmem S8x8 .f32) (harg8 : arg8.IsWhole)
    (x0 : Vec F S8x512 .f32) (x1 : Vec F S1x512 .f32) (x2 : Vec F S256x512 .f32) (x3 : Vec F S1x256 .f32) (x4 : Vec F S64x256 .f32) (x5 : Vec F S1x64 .f32) (x6 : Vec F S8x64 .f32) (x7 : Vec F S1x8 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k2_pay1 x0 x1 x2 x3 x4 x5 x6 x7)) -∗ K ⟨⟩))
      ⊢ wp frame (wpE (defs₀ (F := F)) Variants.none c none) E (cc2_mlp_head arg0 harg0 arg1 harg1 arg2 harg2 arg3 harg3 arg4 harg4 arg5 harg5 arg6 harg6 arg7 harg7 arg8 harg8) K := by
  simp only [cc2_mlp_head_eq_skeleton]; unfold cc2_mlp_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H8
  ipureintro
  refine (View.read_writes_full _ _ _ _ _).trans ?_
  frame_out

section Region

variable (V : (c : Dev nD) → (b : Ref sig .tc) → Buf (Elt F) ((c : Thread nD τ).loc b))

/-- Window `w`'s block at point `t`, read off its array at the contents `V`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block the body leaves. -/
def oblk (c : Dev nD) (t : Fin cfg2.N) : Vec F S8x8 .f32 :=
  k2_pay1 (iblk V c 0 t) (iblk V c 1 t) (iblk V c 2 t) (iblk V c 3 t) (iblk V c 4 t) (iblk V c 5 t) (iblk V c 6 t) (iblk V c 7 t)

/-- The proof data of the third call: the inputs stay at their blocks, the output is `oblk`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => oblk V c t
  Φ _ := Pipeline.ΦA spec2 c
  q _ := fullShare
  owed _ := 0

/-- The arrays are the contents at the region's entry. -/
theorem A_eq (c : Dev nD) (w : Fin cfg2.W) : (dat V c).A w = V c (Pipeline.arrRef spec2 w) := by
  dsimp only [dat]

/-- The output's block after the point. -/
theorem after_out (c : Dev nD) (t : Fin cfg2.N) : (dat V c).after 8 t = oblk V c t := by dsimp only [dat]

/-- Each input's staging buffer holds its block when the body starts. -/
theorem before_in (c : Dev nD) (w : Fin cfg2.W) (hw : (cfg2.win w).isOut = false) (t : Fin cfg2.N) (d) :
    (dat V c).before w t d = (dat V c).after w t := by
  fin_cases w <;> first
    | exact absurd hw (by decide)
    | exact ((dat V c).before_in_eq_fetched _ rfl (fun _ => rfl) (fun _ _ _ => rfl)
        (fun t => by dsimp only [dat]; unfold Dat.blockOf iblk; rfl) t d).trans
        (by dsimp only [dat]; unfold Dat.fetched Dat.blockOf iblk; rfl)

set_option maxHeartbeats 1000000 in
/-- The body at the point, from its invariant and its windows' buffers to the same after it. -/
theorem sound_body (c : Dev nD) (t : Fin cfg2.N) :
    iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))
    ⊢ wp frame (wpE (defs₀ (F := F)) Variants.none c none) Set.univ (bodyAt2 t) (fun _ => iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t))) := by
  unfold bodyAt2
  simp only [before_in V c 0 rfl, before_in V c 1 rfl, before_in V c 2 rfl, before_in V c 3 rfl, before_in V c 4 rfl, before_in V c 5 rfl, before_in V c 6 rfl, before_in V c 7 rfl]
  rw [show (dat V c).Φ t.succ = (dat V c).Φ t.castSucc from rfl,
    show (dat V c).owesAt () t.succ = (dat V c).owesAt () t.castSucc from rfl, after_out, show (dat V c).after 0 t = iblk V c 0 t from rfl, show (dat V c).after 1 t = iblk V c 1 t from rfl, show (dat V c).after 2 t = iblk V c 2 t from rfl, show (dat V c).after 3 t = iblk V c 3 t from rfl, show (dat V c).after 4 t = iblk V c 4 t from rfl, show (dat V c).after 5 t = iblk V c 5 t from rfl, show (dat V c).after 6 t = iblk V c 6 t from rfl, show (dat V c).after 7 t = iblk V c 7 t from rfl]
  unfold oblk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c _ _ _ _ _ _ _ _ _ _ _ _ _ _ _ _ _ _ (iblk V c 0 t) (iblk V c 1 t) (iblk V c 2 t) (iblk V c 3 t) (iblk V c 4 t) (iblk V c 5 t) (iblk V c 6 t) (iblk V c 7 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body. -/
theorem row (t : Fin cfg2.N) : defs₀ (F := F) .tc cfg2.body (cfg2.bodyArgs t (cfg2.slots t)) = bodyAt2 t := by
  unfold defs₀; rw [Defs.onTc_tc]

/-- The body obligation of the third call. -/
theorem obligation (c : Dev nD) : BodyObligation (dat (F := F) V c) (defs₀ (F := F)) Variants.none () Set.univ := fun t => by
  rw [bigSep_W2, bigSep_W2, row]
  exact triple_restated (sound_body V c t) rfl .rfl fun _ => .rfl

end Region

end Cert.Proof.Head

end
-- ==== Proof.Transfer.lean ====
/-
  From one frame to the other: the program checked at machine floats and the one checked at extended reals are the
  same program, so the frame shown once, for any float values, gives both frame claims.
-/
module

public import proofs.«01_k».proof.Defs
public import proofs.«01_k».proof.Proof.Gen.Kernel
public import proofs.«01_k».proof.Proof.Gen.KernelIdeal

@[expose] public section

set_option maxRecDepth 100000

noncomputable section

namespace Cert.Proof

open Idealize.ShloMosaic Idealize.ShloMosaic.TcCoe Idealize.SL.Sem

section
open Cert.KernelIdeal
attribute [local instance] Cert.KernelIdeal.Gen.facts

/-- The kernel's frame at float values `F`: from every memory with counters at zero, every weakly fair execution ends,
    each argument as launched and every counter at zero. -/
def FrameAt (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0)
end

attribute [local instance] Cert.Kernel.Gen.facts Cert.KernelIdeal.Gen.facts

/-- The frame at extended reals is the ideal program's frame claim. -/
theorem frame_ideal (h : FrameAt Ideal) : quiescent_KernelIdeal := fun m g _ => h m g

set_option smartUnfolding false in
set_option maxHeartbeats 1600000 in
/-- The frame at machine floats is the kernel's frame claim: the two printed programs agree word for word. -/
theorem frame_machine (h : FrameAt Bits) : quiescent_Kernel := fun m g _ => by
  with_unfolding_all exact h m g

end Cert.Proof

end
-- ==== Proof.Run.lean ====
module

public import proofs.«01_k».proof.Proof.Region0
public import proofs.«01_k».proof.Proof.Fc1
public import proofs.«01_k».proof.Proof.Head
public import proofs.«01_k».proof.Proof.Transfer
public import proofs.«01_k».proof.Proof.Gen.KernelIdeal.Regions

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Buffer contents as the core's references read them. -/
abbrev Contents : Type := (c : Dev nD) → (b : Ref sig .tc) → Buf (Elt F) ((c : Thread nD τ).loc b)

/-- The program's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The buffers at every boundary -/

/-- At launch. -/
abbrev W0 : Dev nD → Valuation τ sig (Elt F) := fun c b => m (c, b)
/-- After the first host stretch. -/
abbrev W1 : Dev nD → Valuation τ sig (Elt F) := fun c => StableHlo.after hostOps0 (W0 m c)
/-- After the second host stretch. -/
abbrev W2 : Dev nD → Valuation τ sig (Elt F) := fun c => StableHlo.after hostOps0_1 (W1 m c)
/-- At the first call. -/
abbrev W3 : Dev nD → Valuation τ sig (Elt F) := fun c => StableHlo.after hostOps0_2 (W2 m c)
/-- At the first call, by reference. -/
abbrev E0 : Contents (F := F) := fun c b => W3 m c b

/-- After the first call: its arrays at what it leaves, every other buffer as before. -/
def W4 (c : Dev nD) : Valuation τ sig (Elt F) :=
  Pipeline.withArrays spec0 c (W3 m c) fun w => (Mamba.dat (E0 m) c).arrAt w cfg0.N
/-- After the first call, by reference. -/
abbrev X0 : Contents (F := F) := fun c b => W4 m c b
/-- An array of the first call after it. -/
theorem X0_arr (c : Dev nD) (w : Fin cfg0.W) : X0 m c (Pipeline.arrRef spec0 w) = (Mamba.dat (E0 m) c).arrAt w cfg0.N := by
  unfold X0 W4; exact Pipeline.withArrays_arr spec0 launch0.win.arr_inj c _ _ w
/-- A buffer the first call does not take, after it. -/
theorem X0_ne (c : Dev nD) (b : Ref sig .tc) (hb : ∀ w, Pipeline.arrRef spec0 w ≠ b) : X0 m c b = E0 m c b := by
  unfold X0 W4; exact Pipeline.withArrays_of_ne spec0 c _ _ b hb
/-- A buffer that is no result of the first call, after it. -/
theorem X0_of (c : Dev nD) (r : Ref sig .tc) (h : ∀ w : Fin cfg0.W, Pipeline.arrRef spec0 w = r → (cfg0.win w).isOut = false) :
    X0 m c r = E0 m c r := by
  by_cases hw : ∃ w : Fin cfg0.W, Pipeline.arrRef spec0 w = r
  · obtain ⟨w, rfl⟩ := hw
    exact (X0_arr m c w).trans (((Mamba.dat (E0 m) c).arrAt_in w (h w rfl) _).trans (Mamba.A_eq (E0 m) c w))
  · exact X0_ne m c r fun w e => hw ⟨w, e⟩
/-- At the next call. -/
abbrev W5 : Dev nD → Valuation τ sig (Elt F) := fun c => StableHlo.after hostOps1 (W4 m c)
/-- At the next call, by reference. -/
abbrev E1 : Contents (F := F) := fun c b => W5 m c b

/-- After the second call: its arrays at what it leaves, every other buffer as before. -/
def W6 (c : Dev nD) : Valuation τ sig (Elt F) :=
  Pipeline.withArrays spec1 c (W5 m c) fun w => (Fc1.dat (E1 m) c).arrAt w cfg1.N
/-- After the second call, by reference. -/
abbrev X1 : Contents (F := F) := fun c b => W6 m c b
/-- An array of the second call after it. -/
theorem X1_arr (c : Dev nD) (w : Fin cfg1.W) : X1 m c (Pipeline.arrRef spec1 w) = (Fc1.dat (E1 m) c).arrAt w cfg1.N := by
  unfold X1 W6; exact Pipeline.withArrays_arr spec1 launch1.win.arr_inj c _ _ w
/-- A buffer the second call does not take, after it. -/
theorem X1_ne (c : Dev nD) (b : Ref sig .tc) (hb : ∀ w, Pipeline.arrRef spec1 w ≠ b) : X1 m c b = E1 m c b := by
  unfold X1 W6; exact Pipeline.withArrays_of_ne spec1 c _ _ b hb
/-- A buffer that is no result of the second call, after it. -/
theorem X1_of (c : Dev nD) (r : Ref sig .tc) (h : ∀ w : Fin cfg1.W, Pipeline.arrRef spec1 w = r → (cfg1.win w).isOut = false) :
    X1 m c r = E1 m c r := by
  by_cases hw : ∃ w : Fin cfg1.W, Pipeline.arrRef spec1 w = r
  · obtain ⟨w, rfl⟩ := hw
    exact (X1_arr m c w).trans (((Fc1.dat (E1 m) c).arrAt_in w (h w rfl) _).trans (Fc1.A_eq (E1 m) c w))
  · exact X1_ne m c r fun w e => hw ⟨w, e⟩
/-- At the next call. -/
abbrev W7 : Dev nD → Valuation τ sig (Elt F) := fun c => StableHlo.after hostOps2 (W6 m c)
/-- At the next call, by reference. -/
abbrev E2 : Contents (F := F) := fun c b => W7 m c b

/-- After the third call: its arrays at what it leaves, every other buffer as before. -/
def W8 (c : Dev nD) : Valuation τ sig (Elt F) :=
  Pipeline.withArrays spec2 c (W7 m c) fun w => (Head.dat (E2 m) c).arrAt w cfg2.N
/-- After the third call, by reference. -/
abbrev X2 : Contents (F := F) := fun c b => W8 m c b
/-- An array of the third call after it. -/
theorem X2_arr (c : Dev nD) (w : Fin cfg2.W) : X2 m c (Pipeline.arrRef spec2 w) = (Head.dat (E2 m) c).arrAt w cfg2.N := by
  unfold X2 W8; exact Pipeline.withArrays_arr spec2 launch2.win.arr_inj c _ _ w
/-- A buffer the third call does not take, after it. -/
theorem X2_ne (c : Dev nD) (b : Ref sig .tc) (hb : ∀ w, Pipeline.arrRef spec2 w ≠ b) : X2 m c b = E2 m c b := by
  unfold X2 W8; exact Pipeline.withArrays_of_ne spec2 c _ _ b hb
/-- A buffer that is no result of the third call, after it. -/
theorem X2_of (c : Dev nD) (r : Ref sig .tc) (h : ∀ w : Fin cfg2.W, Pipeline.arrRef spec2 w = r → (cfg2.win w).isOut = false) :
    X2 m c r = E2 m c r := by
  by_cases hw : ∃ w : Fin cfg2.W, Pipeline.arrRef spec2 w = r
  · obtain ⟨w, rfl⟩ := hw
    exact (X2_arr m c w).trans (((Head.dat (E2 m) c).arrAt_in w (h w rfl) _).trans (Head.A_eq (E2 m) c w))
  · exact X2_ne m c r fun w e => hw ⟨w, e⟩

/-- The arguments at the first call. -/
theorem E0_args (c : Dev nD) (a : Ref sig .tc) (ha : a ∈ args) : E0 m c a = m ((c : Thread nD τ).loc a) :=
  (StableHlo.after_of_writes_sub hostOps0_2 _ hostOps0_2_writes ((ListAll.forall_mem_of_all_decide (by decide +kernel) : ∀ a ∈ args, a ∉ hostOps0_2_W) a ha)).trans <|
  (StableHlo.after_of_writes_sub hostOps0_1 _ hostOps0_1_writes ((ListAll.forall_mem_of_all_decide (by decide +kernel) : ∀ a ∈ args, a ∉ hostOps0_1_W) a ha)).trans <|
  StableHlo.after_of_writes_sub hostOps0 _ hostOps0_writes ((ListAll.forall_mem_of_all_decide (by decide +kernel) : ∀ a ∈ args, a ∉ hostOps0_W) a ha)

/-- The arguments at the second call. -/
theorem E1_args (c : Dev nD) (a : Ref sig .tc) (ha : a ∈ args) : E1 m c a = m ((c : Thread nD τ).loc a) :=
  (StableHlo.after_of_writes_sub hostOps1 _ hostOps1_writes ((ListAll.forall_mem_of_all_decide (by decide +kernel) : ∀ a ∈ args, a ∉ hostOps1_W) a ha)).trans <|
  (X0_of m c a ((ListAll.forall_mem_of_all_decide (by decide +kernel) : ∀ a ∈ args, ∀ w : Fin cfg0.W, Pipeline.arrRef spec0 w = a → (cfg0.win w).isOut = false) a ha)).trans (E0_args m c a ha)

/-- The arguments at the third call. -/
theorem E2_args (c : Dev nD) (a : Ref sig .tc) (ha : a ∈ args) : E2 m c a = m ((c : Thread nD τ).loc a) :=
  (StableHlo.after_of_writes_sub hostOps2 _ hostOps2_writes ((ListAll.forall_mem_of_all_decide (by decide +kernel) : ∀ a ∈ args, a ∉ hostOps2_W) a ha)).trans <|
  (X1_of m c a ((ListAll.forall_mem_of_all_decide (by decide +kernel) : ∀ a ∈ args, ∀ w : Fin cfg1.W, Pipeline.arrRef spec1 w = a → (cfg1.win w).isOut = false) a ha)).trans (E1_args m c a ha)

/-- The arguments at the end. -/
theorem X2_args (c : Dev nD) (a : Ref sig .tc) (ha : a ∈ args) : X2 m c a = m ((c : Thread nD τ).loc a) :=
  (X2_of m c a ((ListAll.forall_mem_of_all_decide (by decide +kernel) : ∀ a ∈ args, ∀ w : Fin cfg2.W, Pipeline.arrRef spec2 w = a → (cfg2.win w).isOut = false) a ha)).trans (E2_args m c a ha)

/-! ## The three calls as segments -/

/-- Every call's proof data at its entry contents. -/
def pdats : (p : Fin 3) → (c : Dev nD) → Dat τ (Elt F) Unit ℕ (UR sig nD τ) ℕ (Pipeline.pin (pcfgs (F := F)) adm p) c
  | ⟨0, _⟩ => fun c => Mamba.dat (E0 m) c
  | ⟨1, _⟩ => fun c => Fc1.dat (E1 m) c
  | ⟨2, _⟩ => fun c => Head.dat (E2 m) c

/-- No waits are ordered. -/
abbrev L : GSem nD τ sig → Finset Unit := fun _ => ∅
/-- No waits are ordered. -/
abbrev lv : GSem nD τ sig → Unit → ℕ := fun _ _ => 0
/-- What rides beside the buffers: the generator register and nothing owed. -/
abbrev R (c : Dev nD) : sProp 𝕄 := iprop((∃ r, prngReg c r) ∗ ∃ W, owes (c : Thread nD τ) (0 : CellTallies nD τ sig Unit) W)
/-- A host stretch from the contents `W`. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state beside nothing owed. -/
abbrev Tn (c : Dev nD) : sProp 𝕄 := iprop(StableHlo.held (c : Thread nD τ) (Pipeline.ucRefs τ sig) (W8 m c) ∗ ∃ r, prngReg c r)

set_option backward.isDefEq.respectTransparency.types false in
/-- The first call as a segment. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Mamba.obligation (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) (Mamba.A_eq (E0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (fun w => (X0_arr m c w).symm)
      (fun b hb => X0_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Fc1.obligation (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) (Fc1.A_eq (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (fun w => (X1_arr m c w).symm)
      (fun b hb => X1_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call as a segment. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Head.obligation (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) (Head.A_eq (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (fun w => (X2_arr m c w).symm)
      (fun b hb => X2_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole run -/

/-- The program's segments in order. -/
abbrev segs : List (Pipeline.Seg (pcfgs (F := F)) adm (pdats m) () defs₀ Variants.none L lv) :=
  [ .host (host hostOps0 hostOps0_sub hostOps0_fresh (W0 m)),
    .host (host hostOps0_1 hostOps0_1_sub hostOps0_1_fresh (W1 m)),
    .host (host hostOps0_2 hostOps0_2_sub hostOps0_2_fresh (W2 m)),
    .region (reg0 m),
    .host (host hostOps1 hostOps1_sub hostOps1_fresh (W4 m)),
    .region (reg1 m),
    .host (host hostOps2 hostOps2_sub hostOps2_fresh (W6 m)),
    .region (reg2 m) ]
/-- The program is the run of its segments. -/
theorem main_run (c : Dev nD) : main (F := F) c = Pipeline.Seg.run (segs m) := (main_chain c).trans (by chain_rfl)

set_option backward.isDefEq.respectTransparency.types false in
/-- Every run terminates with every unscoped buffer at `W8` and every counter at zero. -/
theorem run_end (ρ : Dev nD → PrngReg) : θ_run defs (onTc (τ := τ) (main (F := F))) ⟨m, fun _ => 0, ρ⟩ (fun r =>
    (∀ c : Dev nD, ∀ b ∈ Pipeline.ucRefs τ sig, r.2.mem (((c : Thread nD τ)).1, b) = W8 m c b) ∧ r.2.sem = fun _ => 0) :=
  Pipeline.θ_run_regions_kit_sems (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h hz => ⟨h, funext fun g => hz g (.inr (regions_no_unscoped g.2))⟩)

/-- The frame at any floats: the arguments end as launched and every counter at zero. -/
theorem frame : FrameAt F := fun m g =>
  (θ_run defs _ _).mono (fun r h => ⟨fun c =>
    ⟨(h.1 c _ (mem_uc main_arg0 (by decide))).trans (X2_args m c main_arg0 (by decide)),
     (h.1 c _ (mem_uc main_arg1 (by decide))).trans (X2_args m c main_arg1 (by decide)),
     (h.1 c _ (mem_uc main_arg2 (by decide))).trans (X2_args m c main_arg2 (by decide)),
     (h.1 c _ (mem_uc main_arg3 (by decide))).trans (X2_args m c main_arg3 (by decide)),
     (h.1 c _ (mem_uc main_arg4 (by decide))).trans (X2_args m c main_arg4 (by decide)),
     (h.1 c _ (mem_uc main_arg5 (by decide))).trans (X2_args m c main_arg5 (by decide)),
     (h.1 c _ (mem_uc main_arg6 (by decide))).trans (X2_args m c main_arg6 (by decide)),
     (h.1 c _ (mem_uc main_arg7 (by decide))).trans (X2_args m c main_arg7 (by decide)),
     (h.1 c _ (mem_uc main_arg8 (by decide))).trans (X2_args m c main_arg8 (by decide)),
     (h.1 c _ (mem_uc main_arg9 (by decide))).trans (X2_args m c main_arg9 (by decide)),
     (h.1 c _ (mem_uc main_arg10 (by decide))).trans (X2_args m c main_arg10 (by decide)),
     (h.1 c _ (mem_uc main_arg11 (by decide))).trans (X2_args m c main_arg11 (by decide)),
     (h.1 c _ (mem_uc main_arg12 (by decide))).trans (X2_args m c main_arg12 (by decide)),
     (h.1 c _ (mem_uc main_arg13 (by decide))).trans (X2_args m c main_arg13 (by decide)),
     (h.1 c _ (mem_uc main_arg14 (by decide))).trans (X2_args m c main_arg14 (by decide)),
     (h.1 c _ (mem_uc main_arg15 (by decide))).trans (X2_args m c main_arg15 (by decide)),
     (h.1 c _ (mem_uc main_arg16 (by decide))).trans (X2_args m c main_arg16 (by decide)),
     (h.1 c _ (mem_uc main_arg17 (by decide))).trans (X2_args m c main_arg17 (by decide))⟩, h.2⟩) (run_end m g)

/-- The result buffer's last contents: what the third call leaves in its output array. -/
theorem result_eq (c : Dev nD) : X2 m c main_v18 = (Head.dat (E2 m) c).arrAt 8 cfg2.N := X2_arr m c 8

end Cert.Proof.Run

end
-- ==== Proof.Spec.lean ====
/-
  The mathematics of one batch entry of the block, over extended reals: what both programs compute, as functions of
  the time step, the channel and the state coordinate.
-/
module

public import Idealize.ShloMosaic.Lib.Pointwise
public import Idealize.ShloMosaic.PureOps

@[expose] public section

noncomputable section

namespace Cert.Proof.Spec

open Idealize.ShloMosaic

/-- `v * 1 / (1 + exp (-v))`. -/
def silu (v : EReal) : EReal := v * Ideal.div 1 (1 + Ideal.exp (-v))

/-- `log (1 + exp v)`, as the larger of `v` and zero plus a correction. -/
def softplus (v : EReal) : EReal := max v 0 + Ideal.log1p (Ideal.exp (-(FloatOps.absf (F := Ideal) (φ := .f32) v)))

/-- The scaled exponential linear unit, with the two constants as the programs round them. -/
def selu (v : EReal) : EReal :=
  Ideal.ofBits .f32 0x3F867D5F#32 * if 0 < v then v else Ideal.ofBits .f32 0x3FD62D7D#32 * (Ideal.exp v - 1)

/-- The inputs of one batch entry: its rows and the weights. -/
structure Par where
  u : Fin 250 → Fin 512 → EReal
  wi : Fin 2048 → Fin 512 → EReal
  cw : Fin 1024 → Fin 4 → EReal
  cb : Fin 1024 → EReal
  xp : Fin 160 → Fin 1024 → EReal
  dw : Fin 1024 → Fin 32 → EReal
  db : Fin 1024 → EReal
  al : Fin 1024 → Fin 64 → EReal
  sk : Fin 1024 → EReal
  wo : Fin 512 → Fin 1024 → EReal

/-- The scan's state before row `t`: decayed by `exp (dt * a)` and fed `b * (dt * x)` at every row. -/
def scan (dt x : ℕ → Fin 1024 → EReal) (b : ℕ → Fin 64 → EReal) (a : Fin 1024 → Fin 64 → EReal) : ℕ → Fin 64 → Fin 1024 → EReal
  | 0, _, _ => 0
  | t + 1, n, d => scan dt x b a t n d * Ideal.exp (dt t d * a d n) + b t n * (dt t d * x t d)

/-- The state before row `t` reads the rows before `t` only. -/
theorem scan_congr {dt dt' x x' : ℕ → Fin 1024 → EReal} {b b' : ℕ → Fin 64 → EReal} {a a' : Fin 1024 → Fin 64 → EReal} {t : ℕ}
    (hd : ∀ i < t, ∀ d, dt i d = dt' i d) (hx : ∀ i < t, ∀ d, x i d = x' i d) (hb : ∀ i < t, ∀ n, b i n = b' i n)
    (ha : ∀ d n, a d n = a' d n) (n : Fin 64) (d : Fin 1024) : scan dt x b a t n d = scan dt' x' b' a' t n d := by
  induction t with
  | zero => rfl
  | succ t ih =>
    simp only [scan]
    rw [ih (fun i h => hd i (by omega)) (fun i h => hx i (by omega)) (fun i h => hb i (by omega)),
      hd t (by omega), hx t (by omega), hb t (by omega), ha]

/-- Rows of a table, and zero past its end. -/
def rows {α : Type} (f : Fin 250 → α → EReal) (t : ℕ) (a : α) : EReal := if h : t < 250 then f ⟨t, h⟩ a else 0

/-- A row inside the sequence. -/
theorem rows_of_lt {α : Type} (f : Fin 250 → α → EReal) {t : ℕ} (h : t < 250) (a : α) : rows f t a = f ⟨t, h⟩ a := dif_pos h

namespace Par

variable (p : Par)

/-- The input projection. -/
def xz (t : Fin 250) (e : Fin 2048) : EReal := ∑ k, p.u t k * p.wi e k
/-- The half of the projection the convolution reads. -/
def xl (t : Fin 250) (d : Fin 1024) : EReal := p.xz t ⟨d.val, by omega⟩
/-- The half of the projection the gate reads. -/
def z (t : Fin 250) (d : Fin 1024) : EReal := p.xz t ⟨1024 + d.val, by omega⟩
/-- The row `s` steps earlier, zero before the first. -/
def sh (s : ℕ) (t : Fin 250) (d : Fin 1024) : EReal := if h : s ≤ t.val then p.xl ⟨t.val - s, by omega⟩ d else 0
/-- The causal convolution over four rows. -/
def conv (t : Fin 250) (d : Fin 1024) : EReal :=
  p.sh 3 t d * p.cw d 0 + p.sh 2 t d * p.cw d 1 + p.sh 1 t d * p.cw d 2 + p.sh 0 t d * p.cw d 3
/-- The activated convolution. -/
def xc (t : Fin 250) (d : Fin 1024) : EReal := silu (p.conv t d + p.cb d)
/-- Its projection. -/
def xdbl (t : Fin 250) (e : Fin 160) : EReal := ∑ d, p.xc t d * p.xp e d
/-- The time steps. -/
def dt (t : Fin 250) (d : Fin 1024) : EReal := softplus ((∑ r : Fin 32, p.xdbl t ⟨r.val, by omega⟩ * p.dw d r) + p.db d)
/-- The input projection of the state. -/
def b (t : Fin 250) (n : Fin 64) : EReal := p.xdbl t ⟨32 + n.val, by omega⟩
/-- The output projection of the state. -/
def c (t : Fin 250) (n : Fin 64) : EReal := p.xdbl t ⟨96 + n.val, by omega⟩
/-- The state matrix. -/
def a (d : Fin 1024) (n : Fin 64) : EReal := -Ideal.exp (p.al d n)
/-- The state before row `t`. -/
def h (t : ℕ) (n : Fin 64) (d : Fin 1024) : EReal := scan (rows p.dt) (rows p.xc) (rows p.b) p.a t n d
/-- The scan's output. -/
def y (t : Fin 250) (d : Fin 1024) : EReal := ∑ n, p.h (t.val + 1) n d * p.c t n
/-- The block's output. -/
def out (t : Fin 250) (e : Fin 512) : EReal :=
  selu (∑ d, ((p.y t d + p.xc t d * p.sk d) * silu (p.z t d)) * p.wo e d)

end Par

end Cert.Proof.Spec

end
-- ==== Proof.KVal.lean ====
module
public import proofs.«01_k».proof.Proof.Out
public import proofs.«01_k».proof.Proof.Spec
public import Idealize.ShloMosaic.Lib.Pointwise
@[expose] public section
set_option maxRecDepth 16384
noncomputable section
namespace Cert.Proof.KV
open Cert.KernelIdeal Cert.KernelIdeal.Gen Cert.Proof.Mamba
open Idealize.ShloMosaic Idealize.ShloMosaic.TcCoe Idealize.ShloMosaic.Tactic

section
variable (x1 : FVec Ideal S1x250x512 .f32) (x2 : FVec Ideal S2048x512 .f32) (x3 : FVec Ideal S4x1024 .f32) (x4 : FVec Ideal S1x1024 .f32) (x5 : FVec Ideal S160x1024 .f32) (x6 : FVec Ideal S1024x32 .f32) (x7 : FVec Ideal S1x1024 .f32) (x8 : FVec Ideal S64x1024 .f32) (x9 : FVec Ideal S1x1024 .f32) (x10 : FVec Ideal S512x1024 .f32)

/-- The inputs of one batch entry as the body reads them. -/
def kp : Spec.Par where
  u t k := x1 (ix3 0 t k)
  wi e k := x2 (ix2 e k)
  cw d o := x3 (ix2 o d)
  cb d := x4 (ix2 0 d)
  xp e d := x5 (ix2 e d)
  dw d r := x6 (ix2 d r)
  db d := x7 (ix2 0 d)
  al d n := x8 (ix2 n d)
  sk d := x9 (ix2 0 d)
  wo e d := x10 (ix2 e d)

/-- The input projection, every entry. -/
theorem xz_at (t : Fin 250) (e : Fin 2048) : k0_pay119 (F := Ideal) x1 x2 (ix2 t e) = (kp x1 x2 x3 x4 x5 x6 x7 x8 x9 x10).xz t e := by
  pointwise [k0_pay119, Spec.Par.xz, kp]
/-- Its first half, every entry. -/
theorem xl_at (t : Fin 250) (d : Fin 1024) : k0_pay120 (F := Ideal) x1 x2 (ix2 t d) = (kp x1 x2 x3 x4 x5 x6 x7 x8 x9 x10).xl t d := by
  pointwise [k0_pay120]
  exact xz_at _ _ _ _ _ _ _ _ _ _ _ _
/-- Its second half, every entry. -/
theorem z_at (t : Fin 250) (d : Fin 1024) : k0_pay121 (F := Ideal) x1 x2 (ix2 t d) = (kp x1 x2 x3 x4 x5 x6 x7 x8 x9 x10).z t d := by
  pointwise [k0_pay121]
  exact xz_at _ _ _ _ _ _ _ _ _ _ _ _
/-- The rows shifted down by `s`, zeros above. -/
theorem sh_at (s : ℕ) (t : Fin 250) (d : Fin 1024) :
    (if h : t.val < s then 0 else k0_pay120 (F := Ideal) x1 x2 (ix2 (⟨t.val - s, by omega⟩ : Fin 250) d)) = (kp x1 x2 x3 x4 x5 x6 x7 x8 x9 x10).sh s t d := by
  unfold Spec.Par.sh
  by_cases h : t.val < s
  · rw [dif_pos h, dif_neg (by omega)]
  · rw [dif_neg h, dif_pos (by omega)]
    exact xl_at _ _ _ _ _ _ _ _ _ _ _ _
/-- Four terms in the opposite order. -/
theorem rev4 (a b c d : EReal) : a + b + c + d = d + c + b + a := by ac_rfl
/-- The causal convolution before its bias, every entry. -/
theorem conv_at (t : Fin 250) (d : Fin 1024) : addf (convTail (F := Ideal) x1 x2 x3) (mulf (k0_pay123 (F := Ideal) x1 x2) (k0_pay124 (F := Ideal) (View.ld x3 (Rect.unit (s := S4x1024) ![0, 0] S1x1024.size inb_S4x1024_S1x1024_0_0)))) (ix2 t d)
    = (kp x1 x2 x3 x4 x5 x6 x7 x8 x9 x10).conv t d := by
  have e0 : k0_pay120 (F := Ideal) x1 x2 (ix2 t d) = (kp x1 x2 x3 x4 x5 x6 x7 x8 x9 x10).sh 0 t d :=
    (xl_at x1 x2 x3 x4 x5 x6 x7 x8 x9 x10 t d).trans (by unfold Spec.Par.sh; rw [dif_pos (Nat.zero_le _)]; rfl)
  have e1 := sh_at x1 x2 x3 x4 x5 x6 x7 x8 x9 x10 1 t d
  have e2 := sh_at x1 x2 x3 x4 x5 x6 x7 x8 x9 x10 2 t d
  have e3 := sh_at x1 x2 x3 x4 x5 x6 x7 x8 x9 x10 3 t d
  pointwise [convTail, k0_pay122, k0_pay123, k0_pay124, tap]
  rw [e0, e2, e3]
  rw [e1]
  exact rev4 _ _ _ _
/-- The activation of the convolution, every entry. -/
theorem p125 (v31 v34 v38 : FVec Ideal S250x1024 .f32) (v41 : FVec Ideal S1x1024 .f32) (t : Fin 250) (d : Fin 1024) :
    k0_pay125 v31 v34 v38 v41 (ix2 t d) = Spec.silu (addf v31 (mulf v34 v38) (ix2 t d) + v41 (ix2 0 d)) := by
  pointwise [k0_pay125, Spec.silu]
  simp only [zero_sub]
/-- The activated convolution in chunks; the rows past the end are zero. -/
theorem xcChunks_at (a : Fin 8) (s : Fin 32) (d : Fin 1024) : xcChunks (F := Ideal) x1 x2 x3 x4 (ix3 a s d)
    = Spec.rows (kp x1 x2 x3 x4 x5 x6 x7 x8 x9 x10).xc (a.val * 32 + s.val) d := by
  pointwise [xcChunks, k0_pay127, k0_pay126, Spec.rows]
  split
  · rw [p125]
    exact congrArg Spec.silu (congrArg (· + _) (conv_at x1 x2 x3 x4 x5 x6 x7 x8 x9 x10 _ d))
  · rfl
/-- The second projection, every entry. -/
theorem xDbl_at (t : Fin 250) (e : Fin 160) : xDbl (F := Ideal) x1 x2 x3 x4 x5 (ix2 t e)
    = (kp x1 x2 x3 x4 x5 x6 x7 x8 x9 x10).xdbl t e := by
  pointwise [xDbl, k0_pay128]
  refine Finset.sum_congr rfl fun d _ => ?_
  rw [p125]
  exact congrArg (· * _) (congrArg Spec.silu (congrArg (· + _) (conv_at x1 x2 x3 x4 x5 x6 x7 x8 x9 x10 _ d)))
/-- The step sizes in chunks; the rows past the end are zero. -/
theorem dt_at (a : Fin 8) (s : Fin 32) (d : Fin 1024) : dtChunks (F := Ideal) x1 x2 x3 x4 x5 x6 x7 (ix3 a s d)
    = Spec.rows (kp x1 x2 x3 x4 x5 x6 x7 x8 x9 x10).dt (a.val * 32 + s.val) d := by
  pointwise [dtChunks, k0_pay140, k0_pay139, k0_pay126, Spec.rows]
  split
  · simp only [xDbl_at x1 x2 x3 x4 x5 x6 x7 x8 x9 x10, zero_sub]
    rfl
  · rfl
/-- The columns of both state projections, padded. -/
theorem bcPad_at (r : Fin 256) (c : Fin 128) : bcPad (F := Ideal) x1 x2 x3 x4 x5 (ix2 r c)
    = Spec.rows (fun t (c : Fin 128) => (kp x1 x2 x3 x4 x5 x6 x7 x8 x9 x10).xdbl t ⟨32 + c.val, by omega⟩) r.val c := by
  pointwise [bcPad, k0_pay129]
  unfold Spec.rows
  split
  · exact xDbl_at x1 x2 x3 x4 x5 x6 x7 x8 x9 x10 _ _
  · rfl
/-- The state matrix, every entry. -/
theorem a_at (n : Fin 64) (d : Fin 1024) : k0_pay141 (F := Ideal) x8 (ix2 n d) = (kp x1 x2 x3 x4 x5 x6 x7 x8 x9 x10).a d n := by
  pointwise [k0_pay141, Spec.Par.a, kp]
  exact zero_sub _
/-- A chunk of columns read at an index. -/
theorem bcT_at (a : Fin 8) (c : Fin 128) (s : Fin 32) : bcT (F := Ideal) x1 x2 x3 x4 x5 (ix3 a c s) = bcPad (F := Ideal) x1 x2 x3 x4 x5 (ix2 (⟨a.val * 32 + s.val, by omega⟩ : Fin 256) c) := by
  unfold bcT bcPieces
  canon_tiles y hy
  all_goals
    idx_vars y
    pointwise [k0_pay130, k0_pay131, k0_pay132, k0_pay133, k0_pay134, k0_pay135, k0_pay136, k0_pay137, k0_pay138, bcPad]
    blk_ext

end
section
variable (dt xc : FVec Ideal S32x1024 .f32) (bc : FVec Ideal S128x32 .f32) (a h : FVec Ideal S64x1024 .f32)
/-- One step of the state, every entry. -/
theorem hStep_at (s : ℕ) (hs : s < 32) (n : Fin 64) (d : Fin 1024) : hStep dt xc bc a h s hs (ix2 n d)
    = h (ix2 n d) * Ideal.exp (dt (ix2 (⟨s, hs⟩ : Fin 32) d) * a (ix2 n d)) + bc (ix2 (⟨n.val, by omega⟩ : Fin 128) (⟨s, hs⟩ : Fin 32)) * (dt (ix2 (⟨s, hs⟩ : Fin 32) d) * xc (ix2 (⟨s, hs⟩ : Fin 32) d)) := by
  pointwise [hStep]
/-- One row of the scan's output, every entry. -/
theorem yRow_at (s : ℕ) (hs : s < 32) (d : Fin 1024) : yRow dt xc bc a h s hs (ix2 0 d)
    = ∑ n : Fin 64, hIter dt xc bc a h (s + 1) hs (ix2 n d) * bc (ix2 (⟨64 + n.val, by omega⟩ : Fin 128) (⟨s, hs⟩ : Fin 32)) := by
  pointwise [yRow]
/-- The rows of a chunk, one by one. -/
theorem yRows_at (s : Fin 32) (d : Fin 1024) : yRows dt xc bc a h (ix2 s d) = yRow dt xc bc a h s.val s.isLt (ix2 0 d) := by
  unfold yRows
  refine (concatenate_ofFn_unit_apply' _ _ _ rfl _).trans ?_
  rfl
/-- The state after some steps of a chunk is the plain recurrence. -/
theorem hIter_at (T X : ℕ → Fin 1024 → EReal) (B : ℕ → Fin 64 → EReal) (A : Fin 1024 → Fin 64 → EReal) (t0 : ℕ)
    (hT : ∀ (s : Fin 32) d, dt (ix2 s d) = T (t0 + s.val) d) (hX : ∀ (s : Fin 32) d, xc (ix2 s d) = X (t0 + s.val) d)
    (hB : ∀ (n : Fin 64) (s : Fin 32), bc (ix2 (⟨n.val, by omega⟩ : Fin 128) s) = B (t0 + s.val) n)
    (hA : ∀ (n : Fin 64) d, a (ix2 n d) = A d n) (hh : ∀ (n : Fin 64) d, h (ix2 n d) = Spec.scan T X B A t0 n d)
    (k : ℕ) (hk : k ≤ 32) (n : Fin 64) (d : Fin 1024) : hIter dt xc bc a h k hk (ix2 n d) = Spec.scan T X B A (t0 + k) n d := by
  induction k with
  | zero => exact hh n d
  | succ k ih =>
    rw [hIter, hStep_at, ih (by omega), hT, hX, hB, hA]
    rfl
end
section
variable (D12 D13 : S8x32x1024.Idx → Elt Ideal .f32) (D15 : S8x128x32.Idx → Elt Ideal .f32) (A0 h0 : FVec Ideal S64x1024 .f32)
/-- Where the loop reads: the chunk. -/
theorem off1_0 : ∀ k, k0_off1 k (0 : Fin 3) = k.val := by decide
/-- It reads from the first row. -/
theorem off1_1 (k) : k0_off1 k (1 : Fin 3) = 0 := rfl
/-- It reads from the first column. -/
theorem off1_2 (k) : k0_off1 k (2 : Fin 3) = 0 := rfl
/-- Where the loop writes: the chunk. -/
theorem off2_0 : ∀ k, k0_off2 k (0 : Fin 3) = k.val := by decide
/-- It writes from the first row. -/
theorem off2_1 (k) : k0_off2 k (1 : Fin 3) = 0 := rfl
/-- It writes from the first column. -/
theorem off2_2 (k) : k0_off2 k (2 : Fin 3) = 0 := rfl
/-- The loop runs eight times. -/
theorem trips_eq8 : k0_t1_loop.trips = 8 := by decide
/-- A row of a chunk of step sizes. -/
theorem row2_at (k : Fin k0_t1_loop.trips) (s : Fin 32) (d : Fin 1024) : k0_pay2 (rowChunk D12 k) (ix2 s d) = D12 (ix3 (⟨k.val, trips_eq8 ▸ k.isLt⟩ : Fin 8) s d) := by
  pointwise [k0_pay2]
  exact View.ld_unit_apply_of _ _ _ _ _ _ fun b => match b with
    | ⟨0, _⟩ => (off1_0 k).symm
    | ⟨1, _⟩ => (Nat.zero_add _).symm
    | ⟨2, _⟩ => (Nat.zero_add _).symm
/-- A row of a chunk of activations. -/
theorem row3_at (k : Fin k0_t1_loop.trips) (s : Fin 32) (d : Fin 1024) : k0_pay3 (rowChunk D12 k) (ix2 s d) = D12 (ix3 (⟨k.val, trips_eq8 ▸ k.isLt⟩ : Fin 8) s d) := row2_at D12 k s d
/-- A column of a chunk of state projections. -/
theorem col_at (k : Fin k0_t1_loop.trips) (s : Fin 32) (c : Fin 128) : k0_pay4 (colChunk D15 k) (ix2 c s) = D15 (ix3 (⟨k.val, trips_eq8 ▸ k.isLt⟩ : Fin 8) c s) := by
  pointwise [k0_pay4]
  exact View.ld_unit_apply_of _ _ _ _ _ _ fun b => match b with
    | ⟨0, _⟩ => (off2_0 k).symm
    | ⟨1, _⟩ => (Nat.zero_add _).symm
    | ⟨2, _⟩ => (Nat.zero_add _).symm

variable (T X : ℕ → Fin 1024 → EReal) (B C : ℕ → Fin 64 → EReal) (A : Fin 1024 → Fin 64 → EReal)
    (hT : ∀ (k : Fin 8) (s : Fin 32) d, D12 (ix3 k s d) = T (k.val * 32 + s.val) d) (hX : ∀ (k : Fin 8) (s : Fin 32) d, D13 (ix3 k s d) = X (k.val * 32 + s.val) d)
    (hB : ∀ (k : Fin 8) (n : Fin 64) (s : Fin 32), D15 (ix3 k (⟨n.val, by omega⟩ : Fin 128) s) = B (k.val * 32 + s.val) n)
    (hC : ∀ (k : Fin 8) (n : Fin 64) (s : Fin 32), D15 (ix3 k (⟨64 + n.val, by omega⟩ : Fin 128) s) = C (k.val * 32 + s.val) n)
    (hA : ∀ (n : Fin 64) d, A0 (ix2 n d) = A d n) (hh : ∀ (n : Fin 64) d, h0 (ix2 n d) = 0)
omit hC
include hT in
/-- The step sizes of a chunk by position in the sequence. -/
theorem cT (k : Fin k0_t1_loop.trips) (s : Fin 32) (d : Fin 1024) : k0_pay2 (rowChunk D12 k) (ix2 s d) = T (k.val * 32 + s.val) d :=
  (row2_at D12 k s d).trans (hT (⟨k.val, trips_eq8 ▸ k.isLt⟩ : Fin 8) s d)
include hX in
/-- The activations of a chunk by position in the sequence. -/
theorem cX (k : Fin k0_t1_loop.trips) (s : Fin 32) (d : Fin 1024) : k0_pay3 (rowChunk D13 k) (ix2 s d) = X (k.val * 32 + s.val) d :=
  (row3_at D13 k s d).trans (hX (⟨k.val, trips_eq8 ▸ k.isLt⟩ : Fin 8) s d)
include hB in
/-- The input projections of a chunk by position in the sequence. -/
theorem cB (k : Fin k0_t1_loop.trips) (n : Fin 64) (s : Fin 32) : k0_pay4 (colChunk D15 k) (ix2 (⟨n.val, by omega⟩ : Fin 128) s) = B (k.val * 32 + s.val) n :=
  (col_at D15 k s (⟨n.val, by omega⟩ : Fin 128)).trans (hB (⟨k.val, trips_eq8 ▸ k.isLt⟩ : Fin 8) n s)
include hC in
/-- The output projections of a chunk by position in the sequence. -/
theorem cC (k : Fin k0_t1_loop.trips) (n : Fin 64) (s : Fin 32) : k0_pay4 (colChunk D15 k) (ix2 (⟨64 + n.val, by omega⟩ : Fin 128) s) = C (k.val * 32 + s.val) n :=
  (col_at D15 k s (⟨64 + n.val, by omega⟩ : Fin 128)).trans (hC (⟨k.val, trips_eq8 ▸ k.isLt⟩ : Fin 8) n s)
include hT hX hB hA hh
/-- The state before a chunk is the plain recurrence up to it. -/
theorem hAt_at (k : ℕ) (hk : k ≤ 8) (n : Fin 64) (d : Fin 1024) : hAt D12 D13 D15 A0 h0 k (ix2 n d) = Spec.scan T X B A (k * 32) n d := by
  induction k generalizing n d with
  | zero => rw [Nat.zero_mul]; exact hh n d
  | succ k ih =>
    have hk' : k < k0_t1_loop.trips := by rw [trips_eq8]; omega
    rw [hAt, dif_pos hk', Nat.succ_mul]
    pointwise [k0_pay147]
    exact hIter_at _ _ _ _ _ T X B A (k * 32) (cT D12 T hT ⟨k, hk'⟩) (cX D13 X hX ⟨k, hk'⟩) (cB D15 B hB ⟨k, hk'⟩) hA
      (fun n d => ih (by omega) n d) 32 le_rfl n d
include hC
/-- The output rows of a chunk, every entry. -/
theorem chunkRows_at (k : Fin k0_t1_loop.trips) (s : Fin 32) (d : Fin 1024) : chunkRows D12 D13 D15 A0 h0 k (ix3 0 s d)
    = ∑ n, Spec.scan T X B A (k.val * 32 + s.val + 1) n d * C (k.val * 32 + s.val) n := by
  have hk : k.val < 8 := trips_eq8 ▸ k.isLt
  pointwise [chunkRows, k0_pay149]
  refine (yRows_at _ _ _ _ _ s d).trans ((yRow_at _ _ _ _ _ _ _ d).trans (Finset.sum_congr rfl fun n _ => ?_))
  rw [cC D15 C hC k n s]
  exact congrArg (· * _) (hIter_at _ _ _ _ _ T X B A (k.val * 32) (cT D12 T hT k) (cX D13 X hX k) (cB D15 B hB k) hA
      (hAt_at D12 D13 D15 A0 h0 T X B A hT hX hB hA hh k.val (by omega)) (s.val + 1) s.isLt n d)
omit hT hX hB hA hh hC in
/-- Every written piece is a chunk's rows. -/
theorem rowPieces_mem (n : ℕ) (p) (hp : p ∈ rowPieces D12 D13 D15 A0 h0 n) : ∃ k : Fin k0_t1_loop.trips,
    p = ⟨Rect.unit (s := S8x32x1024) (k0_off1 k) S1x32x1024.size (k0_off1_inb k), chunkRows D12 D13 D15 A0 h0 k⟩ := by
  induction n with
  | zero => exact absurd hp List.not_mem_nil
  | succ n ih =>
    rw [rowPieces] at hp
    split at hp
    · rcases List.mem_cons.mp hp with rfl | hp
      · exact ⟨_, rfl⟩
      · exact ih hp
    · exact ih hp
/-- All output rows, every entry. -/
theorem allRows_at (k : Fin 8) (s : Fin 32) (d : Fin 1024) : allRows D12 D13 D15 A0 h0 (ix3 k s d)
    = ∑ n, Spec.scan T X B A (k.val * 32 + s.val + 1) n d * C (k.val * 32 + s.val) n := by
  unfold allRows
  refine View.canon_eq_of_allAt _ _ _ (rows_cover _ _ _ _ _ _) fun p hp x hx => ?_
  obtain ⟨j, rfl⟩ := rowPieces_mem _ _ _ _ _ _ p hp
  dsimp only at x hx ⊢
  have hj : j.val < 8 := trips_eq8 ▸ j.isLt
  have e : ∀ b : Fin 3, k0_off1 j b + (x b).val = (ix3 k s d b).val := fun b => by
    have := congrArg Fin.val (congrFun hx b)
    rw [← this, Rect.emb_apply]
    exact congrArg (k0_off1 j b + ·) (Nat.one_mul _).symm
  have e0 := e 0
  have e1 := e 1
  have e2 := e 2
  rw [off1_0] at e0
  rw [off1_1] at e1
  rw [off1_2] at e2
  have x0 : (x 0).val < 1 := (x 0).isLt
  have ek : k = ⟨j.val, hj⟩ := Fin.ext (by have : (ix3 k s d 0).val = k.val := rfl; show k.val = j.val; omega)
  have ex : x = ix3 0 s d := funext fun b => match b with
    | ⟨0, _⟩ => Fin.ext (by show (x 0).val = 0; omega)
    | ⟨1, _⟩ => Fin.ext (by show (x 1).val = s.val; have : (ix3 k s d 1).val = s.val := rfl; omega)
    | ⟨2, _⟩ => Fin.ext (by show (x 2).val = d.val; have : (ix3 k s d 2).val = d.val := rfl; omega)
  rw [ex, ek]
  exact chunkRows_at D12 D13 D15 A0 h0 T X B C A hT hX hB hC hA hh j s d
end
section
variable (x1 : FVec Ideal S1x250x512 .f32) (x2 : FVec Ideal S2048x512 .f32) (x3 : FVec Ideal S4x1024 .f32) (x4 : FVec Ideal S1x1024 .f32) (x5 : FVec Ideal S160x1024 .f32) (x6 : FVec Ideal S1024x32 .f32) (x7 : FVec Ideal S1x1024 .f32) (x8 : FVec Ideal S64x1024 .f32) (x9 : FVec Ideal S1x1024 .f32) (x10 : FVec Ideal S512x1024 .f32)
/-- The input projection of the state by chunk. -/
theorem b_at (k : Fin 8) (n : Fin 64) (s : Fin 32) : bcT (F := Ideal) x1 x2 x3 x4 x5 (ix3 k (⟨n.val, by omega⟩ : Fin 128) s)
    = Spec.rows (kp x1 x2 x3 x4 x5 x6 x7 x8 x9 x10).b (k.val * 32 + s.val) n := by
  rw [bcT_at, bcPad_at x1 x2 x3 x4 x5 x6 x7 x8 x9 x10]
  rfl
/-- The output projection of the state by chunk. -/
theorem c_at (k : Fin 8) (n : Fin 64) (s : Fin 32) : bcT (F := Ideal) x1 x2 x3 x4 x5 (ix3 k (⟨64 + n.val, by omega⟩ : Fin 128) s)
    = Spec.rows (kp x1 x2 x3 x4 x5 x6 x7 x8 x9 x10).c (k.val * 32 + s.val) n := by
  rw [bcT_at, bcPad_at x1 x2 x3 x4 x5 x6 x7 x8 x9 x10]
  unfold Spec.rows
  split
  · exact congrArg _ (Fin.ext (by show 32 + (64 + n.val) = 96 + n.val; omega))
  · rfl
/-- The scan's output, every entry. -/
theorem ys_at (k : Fin 8) (s : Fin 32) (d : Fin 1024) : ysAll (F := Ideal) x1 x2 x3 x4 x5 x6 x7 x8 (ix3 k s d)
    = ∑ n, (kp x1 x2 x3 x4 x5 x6 x7 x8 x9 x10).h (k.val * 32 + s.val + 1) n d * Spec.rows (kp x1 x2 x3 x4 x5 x6 x7 x8 x9 x10).c (k.val * 32 + s.val) n :=
  allRows_at _ _ _ _ _ _ _ _ _ _
    (dt_at x1 x2 x3 x4 x5 x6 x7 x8 x9 x10)
    (xcChunks_at x1 x2 x3 x4 x5 x6 x7 x8 x9 x10)
    (b_at x1 x2 x3 x4 x5 x6 x7 x8 x9 x10)
    (c_at x1 x2 x3 x4 x5 x6 x7 x8 x9 x10)
    (a_at x1 x2 x3 x4 x5 x6 x7 x8 x9 x10)
    (fun n d => by pointwise [k0_pay142]) k s d
/-- The gate, the output projection and its activation, every entry. -/
theorem pay1_at (v139 : FVec Ideal S250x1024 .f32) (v140 : FVec Ideal S8x32x1024 .f32) (v143 : FVec Ideal S1x1024 .f32) (v148 : FVec Ideal S250x1024 .f32) (v158 : FVec Ideal S512x1024 .f32) (t : Fin 250) (e : Fin 512) :
    k0_pay1 v139 v140 v143 v148 v158 (ix3 0 t e) = Spec.selu (∑ x : Fin 1024, (v139 (ix2 t x) + v140 (ix3 (⟨t.val / 32, by omega⟩ : Fin 8) (⟨t.val % 32, by omega⟩ : Fin 32) x) * v143 (ix2 0 x)) * Spec.silu (v148 (ix2 t x)) * v158 (ix2 e x)) := by
  pointwise [k0_pay1, Spec.selu, Spec.silu]
  simp only [zero_sub]
/-- Chunks read as one sequence. -/
theorem pay150_at (v : FVec Ideal S8x32x1024 .f32) (t : Fin 250) (d : Fin 1024) :
    k0_pay150 v (ix2 t d) = v (ix3 (⟨t.val / 32, by omega⟩ : Fin 8) (⟨t.val % 32, by omega⟩ : Fin 32) d) := by
  pointwise [k0_pay150]
/-- What the first kernel stores for a batch entry, read at a row and a column. -/
theorem mambaOut_at (t : Fin 250) (e : Fin 512) : mambaOut (F := Ideal) x1 x2 x3 x4 x5 x6 x7 x8 x9 x10 (ix3 0 t e)
    = (kp x1 x2 x3 x4 x5 x6 x7 x8 x9 x10).out t e := by
  have hr : t.val / 32 * 32 + t.val % 32 = t.val := by omega
  unfold mambaOut
  refine (pay1_at _ _ _ _ _ t e).trans ?_
  refine congrArg Spec.selu (Finset.sum_congr rfl fun d _ => ?_)
  rw [pay150_at]
  have e1 := ys_at x1 x2 x3 x4 x5 x6 x7 x8 x9 x10 (⟨t.val / 32, by omega⟩ : Fin 8) (⟨t.val % 32, by omega⟩ : Fin 32) d
  have e2 := xcChunks_at x1 x2 x3 x4 x5 x6 x7 x8 x9 x10 (⟨t.val / 32, by omega⟩ : Fin 8) (⟨t.val % 32, by omega⟩ : Fin 32) d
  have e3 := z_at x1 x2 x3 x4 x5 x6 x7 x8 x9 x10 t d
  dsimp only at e1 e2
  rw [hr] at e1 e2
  rw [Spec.rows_of_lt _ t.isLt] at e2
  simp only [Spec.rows_of_lt _ t.isLt] at e1
  rw [e1, e2, e3]
  rfl
end
end Cert.Proof.KV
end
-- ==== Proof.KIn.lean ====
module
public import proofs.«01_k».proof.Proof.Run
public import proofs.«01_k».proof.Proof.KVal
public import Idealize.ShloMosaic.Lib.StableHlo.RunRead
@[expose] public section
set_option maxRecDepth 16384
noncomputable section
namespace Cert.Proof.KV
open Cert.KernelIdeal Cert.KernelIdeal.Gen Cert.Proof.Run
open Idealize.ShloMosaic Idealize.ShloMosaic.TcCoe Idealize.ShloMosaic.Tactic
open Idealize.ShloMosaic.Pipeline (Dat Cfg Window)

/-- The rows of the input, padded to 512 columns. -/
def kU (x : FVec Ideal S8x5000x24 .f32) : FVec Ideal S8x250x512 .f32 :=
  pad S8x250x512 ![0, 0, 0] ![0, 0, 32] ![0, 0, 0] (shapeCast S8x250x480 x shapeCasts_S8x5000x24_S8x250x480) (sitofp .f32 (constantI S_ 32 0#32)) pads_S8x250x480_S8x250x512_000_000_0320 h_S_

section
variable (x0 : FVec Ideal S8x5000x24 .f32) (x1 : FVec Ideal S2048x512 .f32) (x2 : FVec Ideal S1024x4 .f32) (x3 : FVec Ideal S1024 .f32) (x4 : FVec Ideal S160x1024 .f32) (x5 : FVec Ideal S1024x32 .f32) (x6 : FVec Ideal S1024 .f32) (x7 : FVec Ideal S1024x64 .f32) (x8 : FVec Ideal S1024 .f32) (x9 : FVec Ideal S512x1024 .f32)
/-- The inputs of batch entry `b`, of the program's arguments. -/
def ap (b : Fin 8) : Spec.Par where
  u t k := kU x0 (ix3 b t k)
  wi e k := x1 (ix2 e k)
  cw d o := x2 (ix2 d o)
  cb d := x3 (ix1 d)
  xp e d := x4 (ix2 e d)
  dw d r := x5 (ix2 d r)
  db d := x6 (ix1 d)
  al d n := x7 (ix2 d n)
  sk d := x8 (ix1 d)
  wo e d := x9 (ix2 e d)
end

section
variable (V : Valuation τ sig (Elt Ideal))
/-- The padded input rows. -/
theorem h1 : StableHlo.after hostOps0_1 (StableHlo.after hostOps0 V) (Proc.devRef .tc main_v1) = kU (V (Proc.devRef .tc main_arg0)) := by
  after_reads_simp
  rfl
/-- The convolution weights, taps first. -/
theorem h2 : StableHlo.after hostOps0_2 V (Proc.devRef .tc main_v2) = (transpose S4x1024 [1, 0] (V (Proc.devRef .tc main_arg2)) transposes_S1024x4_S4x1024_1_0 : FVec Ideal S4x1024 .f32) := by
  after_reads_simp
/-- The convolution bias as a row. -/
theorem h3 : StableHlo.after hostOps0_2 V (Proc.devRef .tc main_v3) = (shapeCast S1x1024 (V (Proc.devRef .tc main_arg3)) shapeCasts_S1024_S1x1024 : FVec Ideal S1x1024 .f32) := by
  after_reads_simp
  rfl
/-- The step bias as a row. -/
theorem h4 : StableHlo.after hostOps0_2 V (Proc.devRef .tc main_v4) = (shapeCast S1x1024 (V (Proc.devRef .tc main_arg6)) shapeCasts_S1024_S1x1024 : FVec Ideal S1x1024 .f32) := by
  after_reads_simp
  rfl
/-- The state matrix, states first. -/
theorem h5 : StableHlo.after hostOps0_2 V (Proc.devRef .tc main_v5) = (transpose S64x1024 [1, 0] (V (Proc.devRef .tc main_arg7)) transposes_S1024x64_S64x1024_1_0 : FVec Ideal S64x1024 .f32) := by
  after_reads_simp
/-- The skip weights as a row. -/
theorem h6 : StableHlo.after hostOps0_2 V (Proc.devRef .tc main_v6) = (shapeCast S1x1024 (V (Proc.devRef .tc main_arg8)) shapeCasts_S1024_S1x1024 : FVec Ideal S1x1024 .f32) := by
  after_reads_simp
  rfl
end

/-- Where the windows of the first call lie. -/
theorem idx0 : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0, 0] :=
  (by decide +kernel : ∀ t : Fin grid0.N, _)

section
variable (V : (c : Dev nD) → (b : Ref sig .tc) → Buf (Elt Ideal) ((c : Thread nD τ).loc b)) (c : Dev nD)
/-- The first call has eight grid points. -/
theorem lt0 (t : Fin cfg0.N) : t.val < 8 := Nat.lt_of_lt_of_eq t.isLt N_0
/-- Grid point `t` reads the rows of batch entry `t`. -/
theorem iblk0 (t : Fin cfg0.N) (r : Fin 250) (k : Fin 512) : (show FVec Ideal S1x250x512 .f32 from Mamba.iblk V c 0 t) (ix3 0 r k)
    = (show FVec Ideal S8x250x512 .f32 from V c main_v1) (ix3 (⟨t.val, lt0 t⟩ : Fin 8) r k) := by
  blk_ext [Mamba.iblk, idx0 t]
/-- Every grid point reads the input projection whole. -/
theorem iblk1 (t : Fin cfg0.N) : Mamba.iblk V c 1 t = V c main_arg1 := by blk_ext! [Mamba.iblk, idx0 t]
/-- Every grid point reads the convolution weights whole. -/
theorem iblk2 (t : Fin cfg0.N) : Mamba.iblk V c 2 t = V c main_v2 := by blk_ext! [Mamba.iblk, idx0 t]
/-- Every grid point reads the convolution bias whole. -/
theorem iblk3 (t : Fin cfg0.N) : Mamba.iblk V c 3 t = V c main_v3 := by blk_ext! [Mamba.iblk, idx0 t]
/-- Every grid point reads the second projection whole. -/
theorem iblk4 (t : Fin cfg0.N) : Mamba.iblk V c 4 t = V c main_arg4 := by blk_ext! [Mamba.iblk, idx0 t]
/-- Every grid point reads the step projection whole. -/
theorem iblk5 (t : Fin cfg0.N) : Mamba.iblk V c 5 t = V c main_arg5 := by blk_ext! [Mamba.iblk, idx0 t]
/-- Every grid point reads the step bias whole. -/
theorem iblk6 (t : Fin cfg0.N) : Mamba.iblk V c 6 t = V c main_v4 := by blk_ext! [Mamba.iblk, idx0 t]
/-- Every grid point reads the state matrix whole. -/
theorem iblk7 (t : Fin cfg0.N) : Mamba.iblk V c 7 t = V c main_v5 := by blk_ext! [Mamba.iblk, idx0 t]
/-- Every grid point reads the skip weights whole. -/
theorem iblk8 (t : Fin cfg0.N) : Mamba.iblk V c 8 t = V c main_v6 := by blk_ext! [Mamba.iblk, idx0 t]
/-- Every grid point reads the output projection whole. -/
theorem iblk9 (t : Fin cfg0.N) : Mamba.iblk V c 9 t = V c main_arg9 := by blk_ext! [Mamba.iblk, idx0 t]
end

variable (m : (ℓ : Loc nD τ sig) → Buf (Elt Ideal) ℓ) (c : Dev nD)
/-- An argument as launched. -/
abbrev arg (r : Ref sig .tc) := m ((c.tc : Thread nD τ).loc r)
/-- The inputs of batch entry `b`, as launched. -/
def mp (b : Fin 8) : Spec.Par := ap (arg m c main_arg0) (arg m c main_arg1) (arg m c main_arg2) (arg m c main_arg3) (arg m c main_arg4)
  (arg m c main_arg5) (arg m c main_arg6) (arg m c main_arg7) (arg m c main_arg8) (arg m c main_arg9) b

/-- The first host stretches leave the arguments. -/
theorem W2_arg (a : Ref sig .tc) (ha : a ∈ args) : W2 m c (Proc.devRef .tc a) = arg m c a :=
  (StableHlo.after_of_writes_sub hostOps0_1 _ hostOps0_1_writes ((ListAll.forall_mem_of_all_decide (by decide +kernel) : ∀ a ∈ args, a ∉ hostOps0_1_W) a ha)).trans <|
  StableHlo.after_of_writes_sub hostOps0 _ hostOps0_writes ((ListAll.forall_mem_of_all_decide (by decide +kernel) : ∀ a ∈ args, a ∉ hostOps0_W) a ha)

/-- The first call is given the padded rows. -/
theorem E0_v1 : E0 m c main_v1 = kU (arg m c main_arg0) :=
  (StableHlo.after_of_writes_sub hostOps0_2 _ hostOps0_2_writes (by decide +kernel)).trans (h1 _)

/-- Two spellings of one entry's inputs. -/
theorem kp_congr (y1 : FVec Ideal S1x250x512 .f32) (y3 : FVec Ideal S4x1024 .f32) (y4 y7 y9 : FVec Ideal S1x1024 .f32) (y8 : FVec Ideal S64x1024 .f32)
    (x0 : FVec Ideal S8x5000x24 .f32) (x1 : FVec Ideal S2048x512 .f32) (x2 : FVec Ideal S1024x4 .f32) (x3 : FVec Ideal S1024 .f32) (x4 : FVec Ideal S160x1024 .f32) (x5 : FVec Ideal S1024x32 .f32) (x6 : FVec Ideal S1024 .f32) (x7 : FVec Ideal S1024x64 .f32) (x8 : FVec Ideal S1024 .f32) (x9 : FVec Ideal S512x1024 .f32) (b : Fin 8)
    (e1 : ∀ (r : Fin 250) (k : Fin 512), y1 (ix3 0 r k) = kU x0 (ix3 b r k)) (e3 : ∀ (d : Fin 1024) (o : Fin 4), y3 (ix2 o d) = x2 (ix2 d o))
    (e4 : ∀ d : Fin 1024, y4 (ix2 0 d) = x3 (ix1 d)) (e7 : ∀ d : Fin 1024, y7 (ix2 0 d) = x6 (ix1 d)) (e8 : ∀ (d : Fin 1024) (n : Fin 64), y8 (ix2 n d) = x7 (ix2 d n))
    (e9 : ∀ d : Fin 1024, y9 (ix2 0 d) = x8 (ix1 d)) : kp y1 x1 y3 y4 x4 x5 y7 y8 y9 x9 = ap x0 x1 x2 x3 x4 x5 x6 x7 x8 x9 b := by
  unfold kp ap
  congr
  · funext r k; exact e1 r k
  · funext d o; exact e3 d o
  · funext d; exact e4 d
  · funext d; exact e7 d
  · funext d n; exact e8 d n
  · funext d; exact e9 d
/-- A vector laid out as a row. -/
theorem row_of (v : FVec Ideal S1024 .f32) (d : Fin 1024) : (shapeCast S1x1024 v shapeCasts_S1024_S1x1024 : FVec Ideal S1x1024 .f32) (ix2 0 d) = v (ix1 d) := by
  pointwise
/-- The transposed convolution weights, every entry. -/
theorem tr4 (v : FVec Ideal S1024x4 .f32) (d : Fin 1024) (o : Fin 4) : (transpose S4x1024 [1, 0] v transposes_S1024x4_S4x1024_1_0 : FVec Ideal S4x1024 .f32) (ix2 o d) = v (ix2 d o) := by
  pointwise
/-- The transposed state matrix, every entry. -/
theorem tr64 (v : FVec Ideal S1024x64 .f32) (d : Fin 1024) (o : Fin 64) : (transpose S64x1024 [1, 0] v transposes_S1024x64_S64x1024_1_0 : FVec Ideal S64x1024 .f32) (ix2 o d) = v (ix2 d o) := by
  pointwise

/-- The blocks of grid point `t` are the inputs of batch entry `t`. -/
theorem kp_eq (t : Fin cfg0.N) : kp (Mamba.iblk (E0 m) c 0 t) (Mamba.iblk (E0 m) c 1 t) (Mamba.iblk (E0 m) c 2 t) (Mamba.iblk (E0 m) c 3 t) (Mamba.iblk (E0 m) c 4 t)
    (Mamba.iblk (E0 m) c 5 t) (Mamba.iblk (E0 m) c 6 t) (Mamba.iblk (E0 m) c 7 t) (Mamba.iblk (E0 m) c 8 t) (Mamba.iblk (E0 m) c 9 t) = mp m c (⟨t.val, lt0 t⟩ : Fin 8) := by
  rw [iblk1, iblk2, iblk3, iblk4, iblk5, iblk6, iblk7, iblk8, iblk9, E0_args m c main_arg1 (by decide), E0_args m c main_arg4 (by decide), E0_args m c main_arg5 (by decide), E0_args m c main_arg9 (by decide)]
  refine kp_congr _ _ _ _ _ _ (arg m c main_arg0) _ (arg m c main_arg2) (arg m c main_arg3) _ _ (arg m c main_arg6) (arg m c main_arg7) (arg m c main_arg8) _ _ (fun r k => ?_) (fun d o => ?_) (fun d => ?_) (fun d => ?_) (fun d n => ?_) (fun d => ?_)
  · exact (iblk0 (E0 m) c t r k).trans (congrFun (E0_v1 m c) _)
  · refine (congrFun (h2 (W2 m c)) _).trans ?_
    rw [W2_arg m c main_arg2 (by decide)]
    exact tr4 _ d o
  · refine (congrFun (h3 (W2 m c)) _).trans ?_
    rw [W2_arg m c main_arg3 (by decide)]
    exact row_of _ d
  · refine (congrFun (h4 (W2 m c)) _).trans ?_
    rw [W2_arg m c main_arg6 (by decide)]
    exact row_of _ d
  · refine (congrFun (h5 (W2 m c)) _).trans ?_
    rw [W2_arg m c main_arg7 (by decide)]
    exact tr64 _ d n
  · refine (congrFun (h6 (W2 m c)) _).trans ?_
    rw [W2_arg m c main_arg8 (by decide)]
    exact row_of _ d

/-- The block's output over all batch entries. -/
def O : FVec Ideal S8x250x512 .f32 := fun j => (mp m c (j 0)).out (j 1) (j 2)
/-- What the first call leaves. -/
theorem v7_eq : X0 m c main_v7 = O m c := by
  refine (X0_arr m c 10).trans ?_
  refine (Mamba.dat (E0 m) c).arrAt_eq_of_covers 10 (O m c) (by decide +kernel) fun t hf y => ?_
  blk_simp
  rw [Mamba.after_out]
  unfold Mamba.oblk
  idx_vars y
  obtain rfl : y0 = 0 := Subsingleton.elim _ _
  have e : O m c (((View.whole main_v7).slice (win0_10.rect t)).emb (ix3 0 y1 y2)) = O m c (ix3 (⟨t.val, lt0 t⟩ : Fin 8) y1 y2) := by
    blk_ext [idx0 t]
  rw [e]
  refine (mambaOut_at _ _ _ _ _ _ _ _ _ _ y1 y2).trans ?_
  rw [kp_eq]
  rfl
end Cert.Proof.KV
end
-- ==== Proof.KFc.lean ====
module
public import proofs.«01_k».proof.Proof.KIn
@[expose] public section
set_option maxRecDepth 16384
noncomputable section
namespace Cert.Proof.KV
open Cert.KernelIdeal Cert.KernelIdeal.Gen Cert.Proof.Run
open Idealize.ShloMosaic Idealize.ShloMosaic.TcCoe Idealize.ShloMosaic.Tactic
open Idealize.ShloMosaic.Pipeline (Dat Cfg Window)

/-- One row of activations against one row of weights, every entry. -/
theorem pay2_at (x0 x1 x2 : FVec Ideal S8x1x5000 .f32) (w0 w1 w2 : FVec Ideal S128x1x5000 .f32) (i : Fin 8) (j : Fin 128) :
    k1_pay2 (F := Ideal) x0 w0 x1 w1 x2 w2 (ix2 i j) = (∑ s : Fin 5000, x0 (ix3 i 0 s) * w0 (ix3 j 0 s)) + (∑ s : Fin 5000, x1 (ix3 i 0 s) * w1 (ix3 j 0 s))
      + (∑ s : Fin 5000, x2 (ix3 i 0 s) * w2 (ix3 j 0 s)) := by
  pointwise [k1_pay2]
/-- The last five rows, added to the first three and to what stood there, every entry. -/
theorem pay5_at (v : FVec Ideal S8x128 .f32) (x3 x4 x5 x6 x7 : FVec Ideal S8x1x5000 .f32) (w3 w4 w5 w6 w7 : FVec Ideal S128x1x5000 .f32) (a : FVec Ideal S8x128 .f32) (i : Fin 8) (j : Fin 128) :
    k1_pay5 (F := Ideal) v (k1_pay3 x3) (k1_pay4 w3) (constant S8x128 .f32 0x00000000#32) x4 w4 x5 w5 x6 w6 x7 w7 a (ix2 i j)
      = a (ix2 i j) + (v (ix2 i j) + (∑ s : Fin 5000, x3 (ix3 i 0 s) * w3 (ix3 j 0 s)) + (∑ s : Fin 5000, x4 (ix3 i 0 s) * w4 (ix3 j 0 s))
      + (∑ s : Fin 5000, x5 (ix3 i 0 s) * w5 (ix3 j 0 s)) + (∑ s : Fin 5000, x6 (ix3 i 0 s) * w6 (ix3 j 0 s)) + (∑ s : Fin 5000, x7 (ix3 i 0 s) * w7 (ix3 j 0 s))) := by
  pointwise [k1_pay5, k1_pay3, k1_pay4]
/-- One grid point adds eight partial products. -/
theorem step_at (x : FVec Ideal S8x8x5000 .f32) (w : FVec Ideal S128x8x5000 .f32) (a : FVec Ideal S8x128 .f32) (i : Fin 8) (j : Fin 128) :
    Fc1.step (F := Ideal) x w a (ix2 i j) = a (ix2 i j) + ∑ q : Fin 8, ∑ s : Fin 5000, x (ix3 i q s) * w (ix3 j q s) := by
  unfold Fc1.step
  rw [pay5_at, pay2_at, Fin.sum_univ_eight]
  pointwise [Fc1.xrow, Fc1.wrow]

/-- Where the windows of the second call lie. -/
theorem idx1 : ∀ t : Fin cfg1.N, win1_0.index t = ![0, t.val % 3, 0] ∧ win1_1.index t = ![t.val / 3, t.val % 3, 0] ∧ win1_2.index t = ![0, t.val / 3] ∧ t.val / 3 < 4 :=
  (by decide +kernel : ∀ t : Fin grid1.N, _)

section
variable (V : (c : Dev nD) → (b : Ref sig .tc) → Buf (Elt Ideal) ((c : Thread nD τ).loc b)) (c : Dev nD)
/-- The second call has twelve grid points. -/
theorem lt1 (t : Fin cfg1.N) : t.val < 12 := Nat.lt_of_lt_of_eq t.isLt N_1
/-- The activation block of a grid point, in the whole array. -/
theorem xblk (t : Fin cfg1.N) (i : Fin 8) (q : Fin 8) (s : Fin 5000) : (show FVec Ideal S8x8x5000 .f32 from Fc1.iblk V c 0 t) (ix3 i q s)
    = (show FVec Ideal S8x24x5000 .f32 from V c main_v11) (ix3 i (⟨t.val % 3 * 8 + q.val, by omega⟩ : Fin 24) s) := by
  blk_ext [Fc1.iblk, idx1 t]
/-- The weight block of a grid point, in the whole array. -/
theorem wblk (t : Fin cfg1.N) (j : Fin 128) (q : Fin 8) (s : Fin 5000) : (show FVec Ideal S128x8x5000 .f32 from Fc1.iblk V c 1 t) (ix3 j q s)
    = (show FVec Ideal S512x24x5000 .f32 from V c main_v12) (ix3 (⟨t.val / 3 * 128 + j.val, by have := lt1 t; omega⟩ : Fin 512) (⟨t.val % 3 * 8 + q.val, by omega⟩ : Fin 24) s) := by
  blk_ext [Fc1.iblk, idx1 t]
/-- The product of all features and all samples. -/
def fcG (x : FVec Ideal S8x24x5000 .f32) (w : FVec Ideal S512x24x5000 .f32) : FVec Ideal S8x512 .f32 := fun y =>
  ∑ f : Fin 24, ∑ s : Fin 5000, x (ix3 (y 0) f s) * w (ix3 (y 1) f s)
/-- What grid point `t` adds. -/
def term (t : Fin cfg1.N) (y : S8x128.Idx) : EReal := ∑ q : Fin 8, ∑ s : Fin 5000,
  (show FVec Ideal S8x24x5000 .f32 from V c main_v11) (ix3 (y 0) (⟨t.val % 3 * 8 + q.val, by omega⟩ : Fin 24) s)
    * (show FVec Ideal S512x24x5000 .f32 from V c main_v12) (ix3 (⟨t.val / 3 * 128 + (y 1).val, by have := lt1 t; have : (y 1).val < 128 := (y 1).isLt; omega⟩ : Fin 512) (⟨t.val % 3 * 8 + q.val, by omega⟩ : Fin 24) s)
/-- One grid point adds its term. -/
theorem step_term (t : Fin cfg1.N) (a : FVec Ideal S8x128 .f32) (y : S8x128.Idx) : Fc1.step (F := Ideal) (Fc1.iblk V c 0 t) (Fc1.iblk V c 1 t) a y = a y + term V c t y := by
  idx_vars y
  refine (step_at _ _ a y0 y1).trans ?_
  exact congrArg (a (ix2 y0 y1) + ·) (Finset.sum_congr rfl fun q _ => Finset.sum_congr rfl fun s _ => congrArg₂ (· * ·) (xblk V c t y0 q s) (wblk V c t y1 q s))
/-- The block starts at zero. -/
theorem zero_at (y : S8x128.Idx) : k1_pay1 (F := Ideal) y = 0 := by
  idx_vars y
  pointwise [k1_pay1]
/-- What stands in the block when it is written back: all three grid points' terms. -/
theorem acc_sum (t : Fin cfg1.N) (hr : t.val % 3 = 3 - 1) (y : S8x128.Idx) : (show FVec Ideal S8x128 .f32 from Fc1.acc V c t.val t.isLt) y
    = ∑ s : Fin 3, term V c ⟨3 * (t.val / 3) + s.val, Pipeline.run_point_lt_of_flush t hr s⟩ y := by
  have h := Pipeline.eq_sum_fin_of_reset_step_apply_of_flush (M := EReal) (ι := S8x128.Idx) (fun n h => (show FVec Ideal S8x128 .f32 from Fc1.acc V c n h)) 3 (fun _ => 0) (term V c)
    (fun t h y => by
      refine (congrFun (Fc1.acc_first V c t h) y).trans ((step_term V c t _ y).trans ?_)
      exact congrArg (fun q : EReal => q + term V c t y) (zero_at y))
    (fun t h y => (congrFun (Fc1.acc_next V c t h) y).trans (step_term V c t _ y)) t hr y
  exact h.trans (zero_add _)
/-- The same as one sum over features. -/
theorem acc_at (t : Fin cfg1.N) (hr : t.val % 3 = 3 - 1) (y0 : Fin 8) (y1 : Fin 128) : (show FVec Ideal S8x128 .f32 from Fc1.acc V c t.val t.isLt) (ix2 y0 y1)
    = fcG (V c main_v11) (V c main_v12) (ix2 y0 (⟨t.val / 3 * 128 + y1.val, by have := lt1 t; omega⟩ : Fin 512)) := by
  refine (acc_sum V c t hr _).trans ?_
  refine Eq.trans ?_ (Fin.sum_univ_tiles 3 8 rfl (fun f : Fin 24 => ∑ s : Fin 5000, (show FVec Ideal S8x24x5000 .f32 from V c main_v11) (ix3 y0 f s)
    * (show FVec Ideal S512x24x5000 .f32 from V c main_v12) (ix3 (⟨t.val / 3 * 128 + y1.val, by have := lt1 t; omega⟩ : Fin 512) f s))).symm
  refine Finset.sum_congr rfl fun r _ => Finset.sum_congr rfl fun q _ => Finset.sum_congr rfl fun s _ => congrArg₂ (fun a b : EReal => a * b) ?_ ?_
  · exact congrArg (fun f : Fin 24 => (show FVec Ideal S8x24x5000 .f32 from V c main_v11) (ix3 y0 f s)) (Fin.ext (by show (3 * (t.val / 3) + r.val) % 3 * 8 + q.val = r.val * 8 + q.val; have := r.isLt; omega))
  · exact congrArg₂ (fun (j : Fin 512) (f : Fin 24) => (show FVec Ideal S512x24x5000 .f32 from V c main_v12) (ix3 j f s))
      (Fin.ext (by show (3 * (t.val / 3) + r.val) / 3 * 128 + y1.val = t.val / 3 * 128 + y1.val; have := r.isLt; omega))
      (Fin.ext (by show (3 * (t.val / 3) + r.val) % 3 * 8 + q.val = r.val * 8 + q.val; have := r.isLt; omega))
/-- What the second call leaves. -/
theorem fc_final : (Fc1.dat V c).arrAt 2 cfg1.N = fcG (V c main_v11) (V c main_v12) := by
  refine (Fc1.dat V c).arrAt_eq_of_covers 2 (fcG (V c main_v11) (V c main_v12)) (by decide +kernel) fun t hf y => ?_
  blk_simp
  have hr : t.val % 3 = 3 - 1 := (flush1_2 t).mp hf
  rw [Fc1.after_out]
  idx_vars y
  have e : fcG (V c main_v11) (V c main_v12) ((win1_2.blk t).view.emb (ix2 y0 y1)) = fcG (V c main_v11) (V c main_v12) (ix2 y0 (⟨t.val / 3 * 128 + y1.val, by have := lt1 t; omega⟩ : Fin 512)) := by
    blk_ext [idx1 t]
  exact (acc_at V c t hr y0 y1).trans e.symm
end

/-- The features of all samples, one row per feature. -/
def kFlat (o : FVec Ideal S8x250x512 .f32) : FVec Ideal S8x24x5000 .f32 :=
  shapeCast S8x24x5000 (transpose S8x24x250x20 [0, 3, 1, 2] (shapeCast S8x250x20x24 (extractStridedSlice S8x250x480 ![0, 0, 0] o slices_S8x250x512_S8x250x480_0_0_0) shapeCasts_S8x250x480_S8x250x20x24) transposes_S8x250x20x24_S8x24x250x20_0_3_1_2) shapeCasts_S8x24x250x20_S8x24x5000
/-- The first weight matrix, one row per feature. -/
def kW (w : FVec Ideal S512x120000 .f32) : FVec Ideal S512x24x5000 .f32 := shapeCast S512x24x5000 w shapeCasts_S512x120000_S512x24x5000

section
variable (V : Valuation τ sig (Elt Ideal))
/-- The activations that the second call reads. -/
theorem g11 : StableHlo.after hostOps1 V (Proc.devRef .tc main_v11) = kFlat (V (Proc.devRef .tc main_v7)) := by
  after_reads_simp
  rfl
/-- The weights that the second call reads. -/
theorem g12 : StableHlo.after hostOps1 V (Proc.devRef .tc main_v12) = kW (V (Proc.devRef .tc main_arg10)) := by
  after_reads_simp
  rfl
/-- The first bias as a row. -/
theorem g14 : StableHlo.after hostOps2 V (Proc.devRef .tc main_v14) = (shapeCast S1x512 (V (Proc.devRef .tc main_arg11)) shapeCasts_S512_S1x512 : FVec Ideal S1x512 .f32) := by
  after_reads_simp
  rfl
/-- The second bias as a row. -/
theorem g15 : StableHlo.after hostOps2 V (Proc.devRef .tc main_v15) = (shapeCast S1x256 (V (Proc.devRef .tc main_arg13)) shapeCasts_S256_S1x256 : FVec Ideal S1x256 .f32) := by
  after_reads_simp
  rfl
/-- The third bias as a row. -/
theorem g16 : StableHlo.after hostOps2 V (Proc.devRef .tc main_v16) = (shapeCast S1x64 (V (Proc.devRef .tc main_arg15)) shapeCasts_S64_S1x64 : FVec Ideal S1x64 .f32) := by
  after_reads_simp
  rfl
/-- The fourth bias as a row. -/
theorem g17 : StableHlo.after hostOps2 V (Proc.devRef .tc main_v17) = (shapeCast S1x8 (V (Proc.devRef .tc main_arg17)) shapeCasts_S8_S1x8 : FVec Ideal S1x8 .f32) := by
  after_reads_simp
  rfl
/-- The last host stretch leaves the second call's result. -/
theorem g13 : StableHlo.after (hostOps2 (F := Ideal)) V (Proc.devRef .tc main_v13) = V (Proc.devRef .tc main_v13) := by
  after_reads_simp
end

section
variable (m : (ℓ : Loc nD τ sig) → Buf (Elt Ideal) ℓ) (c : Dev nD)
/-- What the second call leaves, from the arguments. -/
theorem v13_eq : X1 m c main_v13 = fcG (kFlat (O m c)) (kW (arg m c main_arg10)) := by
  refine (X1_arr m c 2).trans ((fc_final (E1 m) c).trans ?_)
  refine congrArg₂ fcG ((g11 (W4 m c)).trans (congrArg kFlat (v7_eq m c))) ((g12 (W4 m c)).trans (congrArg kW ?_))
  exact (X0_of m c main_arg10 (by decide)).trans (E0_args m c main_arg10 (by decide))

variable (V : (c : Dev nD) → (b : Ref sig .tc) → Buf (Elt Ideal) ((c : Thread nD τ).loc b))
/-- Where the windows of the third call lie. -/
theorem idx2 : ∀ t : Fin cfg2.N, win2_0.index t = ![0, 0] ∧ win2_1.index t = ![0, 0] ∧ win2_2.index t = ![0, 0] ∧ win2_3.index t = ![0, 0] ∧ win2_4.index t = ![0, 0]
    ∧ win2_5.index t = ![0, 0] ∧ win2_6.index t = ![0, 0] ∧ win2_7.index t = ![0, 0] ∧ win2_8.index t = ![0, 0] :=
  (by decide +kernel : ∀ t : Fin grid2.N, _)
/-- The third call reads the second call's result whole. -/
theorem hblk0 (t : Fin cfg2.N) : Head.iblk V c 0 t = V c main_v13 := by blk_ext! [Head.iblk, idx2 t]
/-- It reads the first bias whole. -/
theorem hblk1 (t : Fin cfg2.N) : Head.iblk V c 1 t = V c main_v14 := by blk_ext! [Head.iblk, idx2 t]
/-- It reads the second weights whole. -/
theorem hblk2 (t : Fin cfg2.N) : Head.iblk V c 2 t = V c main_arg12 := by blk_ext! [Head.iblk, idx2 t]
/-- It reads the second bias whole. -/
theorem hblk3 (t : Fin cfg2.N) : Head.iblk V c 3 t = V c main_v15 := by blk_ext! [Head.iblk, idx2 t]
/-- It reads the third weights whole. -/
theorem hblk4 (t : Fin cfg2.N) : Head.iblk V c 4 t = V c main_arg14 := by blk_ext! [Head.iblk, idx2 t]
/-- It reads the third bias whole. -/
theorem hblk5 (t : Fin cfg2.N) : Head.iblk V c 5 t = V c main_v16 := by blk_ext! [Head.iblk, idx2 t]
/-- It reads the fourth weights whole. -/
theorem hblk6 (t : Fin cfg2.N) : Head.iblk V c 6 t = V c main_arg16 := by blk_ext! [Head.iblk, idx2 t]
/-- It reads the fourth bias whole. -/
theorem hblk7 (t : Fin cfg2.N) : Head.iblk V c 7 t = V c main_v17 := by blk_ext! [Head.iblk, idx2 t]
/-- What the third call leaves. -/
theorem head_final : (Head.dat V c).arrAt 8 cfg2.N = k2_pay1 (F := Ideal) (V c main_v13) (V c main_v14) (V c main_arg12) (V c main_v15) (V c main_arg14) (V c main_v16) (V c main_arg16) (V c main_v17) := by
  refine (Head.dat V c).arrAt_eq_of_after_last 8 t2_0 (by decide +kernel) _ fun j => ?_
  blk_simp
  rw [Head.after_out]
  unfold Head.oblk
  rw [hblk0, hblk1, hblk2, hblk3, hblk4, hblk5, hblk6, hblk7]
  blk_ext [idx2 t2_0]
end
end Cert.Proof.KV
end
-- ==== Proof.RVal.lean ====
module
public import proofs.«01_k».proof.Proof.Ref
public import proofs.«01_k».proof.Proof.Spec
public import Idealize.ShloMosaic.Lib.Pointwise
@[expose] public section
set_option maxRecDepth 16384
noncomputable section
namespace Cert.Proof.RV
open Cert.ReferenceIdeal Cert.ReferenceIdeal.Gen Cert.ReferenceIdeal.Value
open Idealize.ShloMosaic Idealize.ShloMosaic.TcCoe Idealize.ShloMosaic.StableHlo Idealize.ShloMosaic.Tactic

/-- The rows of the input, padded to 512 columns. -/
def rU (x : FVec Ideal S8x5000x24 .f32) : FVec Ideal S8x250x512 .f32 :=
  pad S8x250x512 ![0, 0, 0] ![0, 0, 32] ![0, 0, 0] (shapeCast S8x250x480 x shapeCasts_S8x5000x24_S8x250x480) (sitofp .f32 (constantI S_ 32 0#32)) pads_S8x250x480_S8x250x512_000_000_0320 h_S_
/-- The input projection. -/
def rXZ (u : FVec Ideal S8x250x512 .f32) (w : FVec Ideal S2048x512 .f32) : FVec Ideal S8x250x2048 .f32 :=
  Host.dotGeneral dot_S8x250x512_S2048x512_S8x250x2048_2_1_01_0_n_n none u w
/-- Its first half. -/
def rXl (v : FVec Ideal S8x250x2048 .f32) : FVec Ideal S8x250x1024 .f32 := extractStridedSlice S8x250x1024 ![0, 0, 0] v slices_S8x250x2048_S8x250x1024_0_0_0
/-- Its second half. -/
def rZ (v : FVec Ideal S8x250x2048 .f32) : FVec Ideal S8x250x1024 .f32 := extractStridedSlice S8x250x1024 ![0, 0, 1024] v slices_S8x250x2048_S8x250x1024_0_0_1024
/-- Three zero rows in front. -/
def rPad (v : FVec Ideal S8x250x1024 .f32) : FVec Ideal S8x253x1024 .f32 :=
  pad S8x253x1024 ![0, 3, 0] ![0, 0, 0] ![0, 0, 0] v (sitofp .f32 (constantI S_ 32 0#32)) pads_S8x250x1024_S8x253x1024_000_300_000 h_S_
/-- A vector of 1024 repeated over all rows. -/
def rBc (v : FVec Ideal S1024 .f32) : FVec Ideal S8x250x1024 .f32 :=
  broadcastInDim S8x250x1024 ![0, 1, 2] bcast_S1x1x1024_S8x250x1024_0_1_2 (broadcastInDim S1x1x1024 ![2] bcast_S1024_S1x1x1024_2 v)
/-- The convolution with its bias. -/
def rConv (v : FVec Ideal S8x253x1024 .f32) (w : FVec Ideal S1024x4 .f32) (b : FVec Ideal S1024 .f32) : FVec Ideal S8x250x1024 .f32 :=
  addf (addf (addf (addf (addf (broadcastInDim S8x250x1024 ![] bcast_S_S8x250x1024 (constant S_ .f32 0x00000000#32))
    (mulf (extractStridedSlice S8x250x1024 ![0, 0, 0] v slices_S8x253x1024_S8x250x1024_0_0_0) (rBc (shapeCast S1024 (extractStridedSlice S1024x1 ![0, 0] w slices_S1024x4_S1024x1_0_0) shapeCasts_S1024x1_S1024))))
    (mulf (extractStridedSlice S8x250x1024 ![0, 1, 0] v slices_S8x253x1024_S8x250x1024_0_1_0) (rBc (shapeCast S1024 (extractStridedSlice S1024x1 ![0, 1] w slices_S1024x4_S1024x1_0_1) shapeCasts_S1024x1_S1024))))
    (mulf (extractStridedSlice S8x250x1024 ![0, 2, 0] v slices_S8x253x1024_S8x250x1024_0_2_0) (rBc (shapeCast S1024 (extractStridedSlice S1024x1 ![0, 2] w slices_S1024x4_S1024x1_0_2) shapeCasts_S1024x1_S1024))))
    (mulf (extractStridedSlice S8x250x1024 ![0, 3, 0] v slices_S8x253x1024_S8x250x1024_0_3_0) (rBc (shapeCast S1024 (extractStridedSlice S1024x1 ![0, 3] w slices_S1024x4_S1024x1_0_3) shapeCasts_S1024x1_S1024))))
    (rBc b)
/-- The sigmoid-weighted unit over a whole array. -/
def rSilu (v : FVec Ideal S8x250x1024 .f32) : FVec Ideal S8x250x1024 .f32 :=
  mulf v (Host.divf (broadcastInDim S8x250x1024 ![] bcast_S_S8x250x1024 (constant S_ .f32 0x3F800000#32)) (addf (broadcastInDim S8x250x1024 ![] bcast_S_S8x250x1024 (constant S_ .f32 0x3F800000#32)) (Host.exp (Host.negf v))))
/-- The projection of the activated rows. -/
def rDbl (v : FVec Ideal S8x250x1024 .f32) (w : FVec Ideal S160x1024 .f32) : FVec Ideal S8x250x160 .f32 :=
  Host.dotGeneral dot_S8x250x1024_S160x1024_S8x250x160_2_1_01_0_n_n none v w
/-- The input projection of the state. -/
def rB (v : FVec Ideal S8x250x160 .f32) : FVec Ideal S8x250x64 .f32 := extractStridedSlice S8x250x64 ![0, 0, 32] v slices_S8x250x160_S8x250x64_0_0_32
/-- The output projection of the state. -/
def rC (v : FVec Ideal S8x250x160 .f32) : FVec Ideal S8x250x64 .f32 := extractStridedSlice S8x250x64 ![0, 0, 96] v slices_S8x250x160_S8x250x64_0_0_96
/-- The time steps before the softplus. -/
def rDt0 (v : FVec Ideal S8x250x160 .f32) (w : FVec Ideal S1024x32 .f32) (b : FVec Ideal S1024 .f32) : FVec Ideal S8x250x1024 .f32 :=
  addf (Host.dotGeneral dot_S8x250x32_S1024x32_S8x250x1024_2_1_01_0_n_n none (extractStridedSlice S8x250x32 ![0, 0, 0] v slices_S8x250x160_S8x250x32_0_0_0) w) (rBc b)
/-- Zeros over all rows. -/
def rZero : FVec Ideal S8x250x1024 .f32 := broadcastInDim S8x250x1024 ![] bcast_S_S8x250x1024 (constant S_ .f32 0x00000000#32)
/-- The softplus over a whole array. -/
def rSp (v : FVec Ideal S8x250x1024 .f32) : FVec Ideal S8x250x1024 .f32 :=
  select (cmpf .une (subf v rZero) (subf v rZero)) (addf v rZero) (addf (maximumf v rZero) (Host.log1p (Host.exp (Host.negf (Host.absf (subf v rZero))))))
/-- The state matrix. -/
def rA (v : FVec Ideal S1024x64 .f32) : FVec Ideal S1024x64 .f32 := Host.negf (Host.exp v)
/-- The sequence first, the batch second. -/
def rT (v : FVec Ideal S8x250x1024 .f32) : FVec Ideal S250x8x1024 .f32 := transpose S250x8x1024 [1, 0, 2] v transposes_S8x250x1024_S250x8x1024_1_0_2
/-- The state before the first row: zero. -/
def rH0 : FVec Ideal S8x1024x64 .f32 := broadcastInDim S8x1024x64 ![] bcast_S_S8x1024x64 (constant S_ .f32 0x00000000#32)
/-- The same for the state projections. -/
def rT64 (v : FVec Ideal S8x250x64 .f32) : FVec Ideal S250x8x64 .f32 := transpose S250x8x64 [1, 0, 2] v transposes_S8x250x64_S250x8x64_1_0_2

section
variable (V : Valuation τ sig (Elt Ideal))
/-- The padded rows. -/
theorem s1 : after hostOps0_1 (after hostOps0 V) (Proc.devRef .tc main_v1) = rU (V (Proc.devRef .tc main_arg0)) := by
  after_reads_simp
  rfl
/-- The first half of the input projection. -/
theorem s2_v3 : after hostOps0_2 V (Proc.devRef .tc main_v3) = rXl (rXZ (V (Proc.devRef .tc main_v1)) (V (Proc.devRef .tc main_arg1))) := by
  after_reads_simp
  rfl
/-- The gate. -/
theorem s2_v4 : after hostOps0_2 V (Proc.devRef .tc main_v4) = rZ (rXZ (V (Proc.devRef .tc main_v1)) (V (Proc.devRef .tc main_arg1))) := by
  after_reads_simp
  rfl
/-- Three zero rows in front. -/
theorem s3 : after hostOps0_3 (after hostOps0_2 V) (Proc.devRef .tc main_v5) = rPad (after hostOps0_2 V (Proc.devRef .tc main_v3)) := by
  after_reads_simp
  rfl
/-- The causal convolution. -/
theorem s4 : after hostOps0_4 V (Proc.devRef .tc main_v37) = rConv (V (Proc.devRef .tc main_v5)) (V (Proc.devRef .tc main_arg2)) (V (Proc.devRef .tc main_arg3)) := by
  after_reads_simp
  rfl
/-- Its activation. -/
theorem s5 : after hostOps0_5 V (Proc.devRef .tc main_v38) = rSilu (V (Proc.devRef .tc main_v37)) := by
  after_reads_simp
  rfl
/-- The input projection of the state. -/
theorem s6_v41 : after hostOps0_6 V (Proc.devRef .tc main_v41) = rB (rDbl (V (Proc.devRef .tc main_v38)) (V (Proc.devRef .tc main_arg4))) := by
  after_reads_simp
  rfl
/-- The output projection of the state. -/
theorem s6_v42 : after hostOps0_6 V (Proc.devRef .tc main_v42) = rC (rDbl (V (Proc.devRef .tc main_v38)) (V (Proc.devRef .tc main_arg4))) := by
  after_reads_simp
  rfl
/-- The step sizes before their activation. -/
theorem s6_v46 : after hostOps0_6 V (Proc.devRef .tc main_v46) = rDt0 (rDbl (V (Proc.devRef .tc main_v38)) (V (Proc.devRef .tc main_arg4))) (V (Proc.devRef .tc main_arg5)) (V (Proc.devRef .tc main_arg6)) := by
  after_reads_simp
  rfl
/-- The step sizes. -/
theorem s7 : after hostOps0_7 V (Proc.devRef .tc main_v47) = rSp (V (Proc.devRef .tc main_v46)) := by
  after_reads_simp
  rfl
/-- The step sizes, sequence first. -/
theorem s8_0 : after hostOps0_8 V (Proc.devRef .tc main_v56_0) = rT (V (Proc.devRef .tc main_v47)) := by
  after_reads_simp
  rfl
/-- The input projections, sequence first. -/
theorem s8_1 : after hostOps0_8 V (Proc.devRef .tc main_v56_1) = rT64 (V (Proc.devRef .tc main_v41)) := by
  after_reads_simp
  rfl
/-- The output projections, sequence first. -/
theorem s8_2 : after hostOps0_8 V (Proc.devRef .tc main_v56_2) = rT64 (V (Proc.devRef .tc main_v42)) := by
  after_reads_simp
  rfl
/-- The activations, sequence first. -/
theorem s8_3 : after hostOps0_8 V (Proc.devRef .tc main_v56_3) = rT (V (Proc.devRef .tc main_v38)) := by
  after_reads_simp
  rfl
/-- The state matrix. -/
theorem s8_4 : after hostOps0_8 V (Proc.devRef .tc main_v56_4) = rA (V (Proc.devRef .tc main_arg7)) := by
  after_reads_simp
  rfl
/-- The state starts at zero. -/
theorem s8_6 : after hostOps0_8 V (Proc.devRef .tc main_v56_6) = rH0 := by
  after_reads_simp
  rfl
end

section
variable (x0 : FVec Ideal S8x5000x24 .f32) (x1 : FVec Ideal S2048x512 .f32) (x2 : FVec Ideal S1024x4 .f32) (x3 : FVec Ideal S1024 .f32) (x4 : FVec Ideal S160x1024 .f32) (x5 : FVec Ideal S1024x32 .f32) (x6 : FVec Ideal S1024 .f32) (x7 : FVec Ideal S1024x64 .f32) (x8 : FVec Ideal S1024 .f32) (x9 : FVec Ideal S512x1024 .f32)
/-- The inputs of batch entry `b`. -/
def rp (b : Fin 8) : Spec.Par where
  u t k := rU x0 (ix3 b t k)
  wi e k := x1 (ix2 e k)
  cw d o := x2 (ix2 d o)
  cb d := x3 (ix1 d)
  xp e d := x4 (ix2 e d)
  dw d r := x5 (ix2 d r)
  db d := x6 (ix1 d)
  al d n := x7 (ix2 d n)
  sk d := x8 (ix1 d)
  wo e d := x9 (ix2 e d)
/-- The input projection of all rows. -/
def aXZ : FVec Ideal S8x250x2048 .f32 := rXZ (rU x0) x1
/-- The activated convolution of all rows. -/
def aXc : FVec Ideal S8x250x1024 .f32 := rSilu (rConv (rPad (rXl (aXZ x0 x1))) x2 x3)
/-- Its projection. -/
def aDbl : FVec Ideal S8x250x160 .f32 := rDbl (aXc x0 x1 x2 x3) x4
/-- The time steps of all rows. -/
def aDt : FVec Ideal S8x250x1024 .f32 := rSp (rDt0 (aDbl x0 x1 x2 x3 x4) x5 x6)

/-- The input projection, every entry. -/
theorem xz_at (b : Fin 8) (t : Fin 250) (e : Fin 2048) : aXZ x0 x1 (ix3 b t e) = (rp x0 x1 x2 x3 x4 x5 x6 x7 x8 x9 b).xz t e := by
  pointwise [aXZ, rXZ, Spec.Par.xz, rp]
/-- Its first half, every entry. -/
theorem xl_at (b : Fin 8) (t : Fin 250) (d : Fin 1024) : rXl (aXZ x0 x1) (ix3 b t d) = (rp x0 x1 x2 x3 x4 x5 x6 x7 x8 x9 b).xl t d := by
  pointwise [rXl]
  exact xz_at x0 x1 x2 x3 x4 x5 x6 x7 x8 x9 _ _ _
/-- Its second half, every entry. -/
theorem z_at (b : Fin 8) (t : Fin 250) (d : Fin 1024) : rZ (aXZ x0 x1) (ix3 b t d) = (rp x0 x1 x2 x3 x4 x5 x6 x7 x8 x9 b).z t d := by
  pointwise [rZ]
  exact xz_at x0 x1 x2 x3 x4 x5 x6 x7 x8 x9 _ _ _
/-- The padded rows, every entry. -/
theorem pad_at (v : FVec Ideal S8x250x1024 .f32) (b : Fin 8) (r : Fin 253) (d : Fin 1024) : rPad v (ix3 b r d)
    = if h : 3 ≤ r.val then v (ix3 b (⟨r.val - 3, by omega⟩ : Fin 250) d) else 0 := by
  have z : FloatOps.sitofp (F := Ideal) .f32 0#32 = 0 := by simp [FloatOps.sitofp]
  pointwise [rPad]
  by_cases h : 3 ≤ r.val
  · rw [dif_pos h, dif_pos ⟨h, by omega⟩]
  · rw [dif_neg h, dif_neg fun q => h q.1]
    exact z
/-- A padded row is the row `s` steps earlier, or zero. -/
theorem sh_at (s : ℕ) (hs : s ≤ 3) (b : Fin 8) (t : Fin 250) (d : Fin 1024) : rPad (rXl (aXZ x0 x1)) (ix3 b (⟨(3 - s) + t.val, by omega⟩ : Fin 253) d)
    = (rp x0 x1 x2 x3 x4 x5 x6 x7 x8 x9 b).sh s t d := by
  rw [pad_at]
  unfold Spec.Par.sh
  by_cases h : s ≤ t.val
  · rw [dif_pos h, dif_pos (by dsimp only; omega), ← xl_at]
    exact congrArg (fun q => rXl (aXZ x0 x1) (ix3 b q d)) (Fin.ext (by dsimp only; omega))
  · rw [dif_neg h, dif_neg (by dsimp only; omega)]
/-- The convolution, every entry. -/
theorem conv_at (b : Fin 8) (t : Fin 250) (d : Fin 1024) : rConv (rPad (rXl (aXZ x0 x1))) x2 x3 (ix3 b t d)
    = (rp x0 x1 x2 x3 x4 x5 x6 x7 x8 x9 b).conv t d + x3 (ix1 d) := by
  have e0 := sh_at x0 x1 x2 x3 x4 x5 x6 x7 x8 x9 3 (by omega) b t d
  have e1 := sh_at x0 x1 x2 x3 x4 x5 x6 x7 x8 x9 2 (by omega) b t d
  have e2 := sh_at x0 x1 x2 x3 x4 x5 x6 x7 x8 x9 1 (by omega) b t d
  have e3 := sh_at x0 x1 x2 x3 x4 x5 x6 x7 x8 x9 0 (by omega) b t d
  pointwise [rConv, rBc] at e0 e1 e2 e3 ⊢
  rw [e0, e1, e2, e3]
  rfl
/-- The gate activation, every entry. -/
theorem silu_at (v : FVec Ideal S8x250x1024 .f32) (b : Fin 8) (t : Fin 250) (d : Fin 1024) : rSilu v (ix3 b t d) = Spec.silu (v (ix3 b t d)) := by
  pointwise [rSilu, Spec.silu]
/-- The activated convolution, every entry. -/
theorem xc_at (b : Fin 8) (t : Fin 250) (d : Fin 1024) : aXc x0 x1 x2 x3 (ix3 b t d) = (rp x0 x1 x2 x3 x4 x5 x6 x7 x8 x9 b).xc t d := by
  unfold aXc
  rw [silu_at, conv_at x0 x1 x2 x3 x4 x5 x6 x7 x8 x9]
  rfl
/-- The second projection, every entry. -/
theorem dbl_at (b : Fin 8) (t : Fin 250) (e : Fin 160) : aDbl x0 x1 x2 x3 x4 (ix3 b t e) = (rp x0 x1 x2 x3 x4 x5 x6 x7 x8 x9 b).xdbl t e := by
  pointwise [aDbl, rDbl]
  exact Finset.sum_congr rfl fun d _ => congrArg (· * _) (xc_at x0 x1 x2 x3 x4 x5 x6 x7 x8 x9 b t d)
/-- The softplus, every entry: the guard against undefined numbers never acts. -/
theorem sp_at (v : FVec Ideal S8x250x1024 .f32) (b : Fin 8) (t : Fin 250) (d : Fin 1024) : rSp v (ix3 b t d) = Spec.softplus (v (ix3 b t d)) := by
  pointwise [rSp, rZero, Spec.softplus]
  rw [if_neg (by simp)]
/-- The step sizes, every entry. -/
theorem dt_at (b : Fin 8) (t : Fin 250) (d : Fin 1024) : aDt x0 x1 x2 x3 x4 x5 x6 (ix3 b t d) = (rp x0 x1 x2 x3 x4 x5 x6 x7 x8 x9 b).dt t d := by
  unfold aDt
  rw [sp_at]
  refine congrArg Spec.softplus ?_
  pointwise [rDt0, rBc]
  exact congrArg (· + _) (Finset.sum_congr rfl fun r _ => congrArg (· * _) (dbl_at x0 x1 x2 x3 x4 x5 x6 x7 x8 x9 b t _))
/-- The input projection of the state, every entry. -/
theorem b_at (b : Fin 8) (t : Fin 250) (n : Fin 64) : rB (aDbl x0 x1 x2 x3 x4) (ix3 b t n) = (rp x0 x1 x2 x3 x4 x5 x6 x7 x8 x9 b).b t n := by
  pointwise [rB]
  exact dbl_at x0 x1 x2 x3 x4 x5 x6 x7 x8 x9 b t _
/-- The output projection of the state, every entry. -/
theorem c_at (b : Fin 8) (t : Fin 250) (n : Fin 64) : rC (aDbl x0 x1 x2 x3 x4) (ix3 b t n) = (rp x0 x1 x2 x3 x4 x5 x6 x7 x8 x9 b).c t n := by
  pointwise [rC]
  exact dbl_at x0 x1 x2 x3 x4 x5 x6 x7 x8 x9 b t _
/-- The state matrix, every entry. -/
theorem a_at (b : Fin 8) (d : Fin 1024) (n : Fin 64) : rA x7 (ix2 d n) = (rp x0 x1 x2 x3 x4 x5 x6 x7 x8 x9 b).a d n := by
  pointwise [rA, Spec.Par.a, rp]
/-- Sequence and batch exchanged. -/
theorem t_at (v : FVec Ideal S8x250x1024 .f32) (t : Fin 250) (b : Fin 8) (d : Fin 1024) : rT v (ix3 t b d) = v (ix3 b t d) := by
  pointwise [rT]
/-- The same for the state projections. -/
theorem t64_at (v : FVec Ideal S8x250x64 .f32) (t : Fin 250) (b : Fin 8) (d : Fin 64) : rT64 v (ix3 t b d) = v (ix3 b t d) := by
  pointwise [rT64]
end
end Cert.Proof.RV
end
-- ==== Proof.RLoop.lean ====
module
public import proofs.«01_k».proof.Proof.RVal
public import Idealize.ShloMosaic.Lib.WordCmp
@[expose] public section
set_option maxRecDepth 16384
noncomputable section
namespace Cert.Proof.RV
open Cert.ReferenceIdeal Cert.ReferenceIdeal.Gen Cert.ReferenceIdeal.Value
open Idealize.ShloMosaic Idealize.ShloMosaic.TcCoe Idealize.ShloMosaic.StableHlo Idealize.ShloMosaic.Tactic

/-- The loop counter's value. -/
theorem iv_k : ∀ k : Fin 250, (Scf.iv 0#32 1#32 k.val).toInt = (k.val : ℤ) := by decide +kernel
/-- The starts of trip `k`: row `k`, the other axes from zero. -/
theorem off_eq (c : (⟨S_, .i32⟩ : BufTy).Contents (Elt Ideal)) (k : Fin 250) (hk : c = fun _ => Scf.iv 0#32 1#32 k.val) (a : Fin 3) :
    (((![c, constantI S_ 32 0#32, constantI S_ 32 0#32] : Fin 3 → (⟨S_, .i32⟩ : BufTy).Contents (Elt Ideal))) a (Shape.Idx.first h_S_)).toInt
      = (((![k.val, 0, 0] : Fin 3 → ℕ) a : ℕ) : ℤ) := by
  subst hk
  fin_cases a
  · exact iv_k k
  · rfl
  · rfl
/-- One row of a `250 × 8 × 1024` array. -/
def rRow (D : FVec Ideal S250x8x1024 .f32) (o : Fin 3 → ℤ) : FVec Ideal S8x1024 .f32 :=
  shapeCast S8x1024 (Host.dynamicSlice S1x8x1024 D o sliceFits_S250x8x1024_S1x8x1024) shapeCasts_S1x8x1024_S8x1024
/-- One row of a `250 × 8 × 64` array. -/
def rRow64 (D : FVec Ideal S250x8x64 .f32) (o : Fin 3 → ℤ) : FVec Ideal S8x64 .f32 :=
  shapeCast S8x64 (Host.dynamicSlice S1x8x64 D o sliceFits_S250x8x64_S1x8x64) shapeCasts_S1x8x64_S8x64
/-- Every position lies inside the sequence. -/
theorem fits (k : Fin 250) : Shape.Slices S250x8x1024 ![k.val, 0, 0] S1x8x1024 := by revert k; decide +kernel
/-- Every position lies inside the sequence of state projections. -/
theorem fits64 (k : Fin 250) : Shape.Slices S250x8x64 ![k.val, 0, 0] S1x8x64 := by revert k; decide +kernel
/-- The row read at a position. -/
theorem row_at (D : FVec Ideal S250x8x1024 .f32) (o : Fin 3 → ℤ) (k : Fin 250) (e : ∀ a, o a = (((![k.val, 0, 0] : Fin 3 → ℕ) a : ℕ) : ℤ))
    (b : Fin 8) (d : Fin 1024) : rRow D o (ix2 b d) = D (ix3 k b d) := by
  unfold rRow
  rw [WordCmp.dynamicSlice_eq_extract S1x8x1024 D o _ ![k.val, 0, 0] (fits k) e]
  pointwise
/-- The state projection read at a position. -/
theorem row64_at (D : FVec Ideal S250x8x64 .f32) (o : Fin 3 → ℤ) (k : Fin 250) (e : ∀ a, o a = (((![k.val, 0, 0] : Fin 3 → ℕ) a : ℕ) : ℤ))
    (b : Fin 8) (d : Fin 64) : rRow64 D o (ix2 b d) = D (ix3 k b d) := by
  unfold rRow64
  rw [WordCmp.dynamicSlice_eq_extract S1x8x64 D o _ ![k.val, 0, 0] (fits64 k) e]
  pointwise
/-- The state after a trip, of the state before it and the trip's rows. -/
def rStep (H : FVec Ideal S8x1024x64 .f32) (A : FVec Ideal S1024x64 .f32) (D X : FVec Ideal S8x1024 .f32) (B : FVec Ideal S8x64 .f32) : FVec Ideal S8x1024x64 .f32 :=
  addf (mulf H (Host.exp (mulf (broadcastInDim S8x1024x64 ![0, 1, 2] bcast_S8x1024x1_S8x1024x64_0_1_2 (broadcastInDim S8x1024x1 ![0, 1] bcast_S8x1024_S8x1024x1_0_1 D)) (broadcastInDim S8x1024x64 ![0, 1, 2] bcast_S1x1024x64_S8x1024x64_0_1_2 (broadcastInDim S1x1024x64 ![1, 2] bcast_S1024x64_S1x1024x64_1_2 A)))))
    (mulf (mulf (broadcastInDim S8x1024x64 ![0, 1, 2] bcast_S8x1024x1_S8x1024x64_0_1_2 (broadcastInDim S8x1024x1 ![0, 1] bcast_S8x1024_S8x1024x1_0_1 D)) (broadcastInDim S8x1024x64 ![0, 1, 2] bcast_S8x1x64_S8x1024x64_0_1_2 (broadcastInDim S8x1x64 ![0, 2] bcast_S8x64_S8x1x64_0_2 B)))
      (broadcastInDim S8x1024x64 ![0, 1, 2] bcast_S8x1024x1_S8x1024x64_0_1_2 (broadcastInDim S8x1024x1 ![0, 1] bcast_S8x1024_S8x1024x1_0_1 X)))
/-- One step of the state, every entry. -/
theorem rStep_at (H : FVec Ideal S8x1024x64 .f32) (A : FVec Ideal S1024x64 .f32) (D X : FVec Ideal S8x1024 .f32) (B : FVec Ideal S8x64 .f32) (b : Fin 8) (d : Fin 1024) (n : Fin 64) :
    rStep H A D X B (ix3 b d n) = H (ix3 b d n) * Ideal.exp (D (ix2 b d) * A (ix2 d n)) + (D (ix2 b d) * B (ix2 b n)) * X (ix2 b d) := by
  pointwise [rStep]
/-- The row a trip writes: the state against the row of the output projection. -/
def rYrow (H : FVec Ideal S8x1024x64 .f32) (C : FVec Ideal S8x64 .f32) : FVec Ideal S1x8x1024 .f32 :=
  broadcastInDim S1x8x1024 ![1, 2] bcast_S8x1024_S1x8x1024_1_2 (Host.dotGeneral dot_S8x1024x64_S8x64_S8x1024_2_1_1_n_0_0 none H C)
/-- One row of the output, every entry. -/
theorem yrow_at (H : FVec Ideal S8x1024x64 .f32) (C : FVec Ideal S8x64 .f32) (b : Fin 8) (d : Fin 1024) :
    rYrow H C (ix3 0 b d) = ∑ n : Fin 64, H (ix3 b d n) * C (ix2 b n) := by
  pointwise [rYrow]
/-- Writing one row leaves the others. -/
def rPut (Y : FVec Ideal S250x8x1024 .f32) (U : FVec Ideal S1x8x1024 .f32) (o : Fin 3 → ℤ) : FVec Ideal S250x8x1024 .f32 :=
  Host.dynamicUpdateSlice Y U o updateFits_S250x8x1024_S1x8x1024
/-- A row written at a position changes that row only. -/
theorem put_at (Y : FVec Ideal S250x8x1024 .f32) (U : FVec Ideal S1x8x1024 .f32) (o : Fin 3 → ℤ) (k : Fin 250) (e : ∀ a, o a = (((![k.val, 0, 0] : Fin 3 → ℕ) a : ℕ) : ℤ))
    (t : Fin 250) (b : Fin 8) (d : Fin 1024) : rPut Y U o (ix3 t b d) = if t = k then U (ix3 0 b d) else Y (ix3 t b d) := by
  unfold rPut
  rw [WordCmp.dynamicUpdateSlice_eq_update Y U o _ ![k.val, 0, 0] (fits k) e]
  by_cases h : t = k
  · subst h
    rw [if_pos rfl]
    pointwise
    rw [dif_pos ⟨Nat.le_refl _, Nat.lt_succ_self _⟩]
    exact congrArg (fun q => U (ix3 q b d)) (Fin.ext (Nat.sub_self _))
  · rw [if_neg h]
    pointwise
    rw [dif_neg fun q => h (Fin.ext (by omega))]

section
variable (V0 : Valuation τ sig (Elt Ideal))
/-- The starts a trip reads from its counter. -/
def rOff (c : (⟨S_, .i32⟩ : BufTy).Contents (Elt Ideal)) : Fin 3 → ℤ := fun k => (((![c, constantI S_ 32 0#32, constantI S_ 32 0#32] : Fin 3 → (⟨S_, .i32⟩ : BufTy).Contents (Elt Ideal))) k (Shape.Idx.first h_S_)).toInt
/-- The new state of one trip. -/
theorem v109_eq : res_main_while0b_v109 V0 = rStep (V0 (Proc.devRef .tc main_v56_6)) (V0 (Proc.devRef .tc main_v56_4)) (rRow (V0 (Proc.devRef .tc main_v56_0)) (rOff (V0 (Proc.devRef .tc main_v56_5))))
    (rRow (V0 (Proc.devRef .tc main_v56_3)) (rOff (V0 (Proc.devRef .tc main_v56_5)))) (rRow64 (V0 (Proc.devRef .tc main_v56_1)) (rOff (V0 (Proc.devRef .tc main_v56_5)))) := rfl
/-- The written rows after one trip. -/
theorem step7_eq : step_main_v56_7 V0 = rPut (V0 (Proc.devRef .tc main_v56_7)) (rYrow (res_main_while0b_v109 V0) (rRow64 (V0 (Proc.devRef .tc main_v56_2)) (rOff (V0 (Proc.devRef .tc main_v56_5)))))
    (rOff (V0 (Proc.devRef .tc main_v56_5))) := rfl
end

/-- The loop on carried arrays: the state and the written rows before trip `k`. -/
theorem loop_at (W : ℕ → Valuation τ sig (Elt Ideal)) (p : Fin 8 → Spec.Par)
    (hs : ∀ k, ∀ j ∈ carriedRefs, W (k + 1) (Proc.devRef .tc j) = STEP (W k) (Proc.devRef .tc j))
    (hc : ∀ k, W k (Proc.devRef .tc main_v56_5) = fun _ => Scf.iv 0#32 1#32 k)
    (D X : FVec Ideal S250x8x1024 .f32) (B C : FVec Ideal S250x8x64 .f32) (A : FVec Ideal S1024x64 .f32)
    (h0 : W 0 (Proc.devRef .tc main_v56_0) = D) (h1 : W 0 (Proc.devRef .tc main_v56_1) = B) (h2 : W 0 (Proc.devRef .tc main_v56_2) = C)
    (h3 : W 0 (Proc.devRef .tc main_v56_3) = X) (h4 : W 0 (Proc.devRef .tc main_v56_4) = A) (h6 : W 0 (Proc.devRef .tc main_v56_6) = rH0)
    (eD : ∀ t b d, D (ix3 t b d) = (p b).dt t d) (eX : ∀ t b d, X (ix3 t b d) = (p b).xc t d)
    (eB : ∀ t b n, B (ix3 t b n) = (p b).b t n) (eC : ∀ t b n, C (ix3 t b n) = (p b).c t n) (eA : ∀ b d n, A (ix2 d n) = (p b).a d n) (k : ℕ) (hk : k ≤ 250) :
    (W k (Proc.devRef .tc main_v56_0) = D ∧ W k (Proc.devRef .tc main_v56_1) = B ∧ W k (Proc.devRef .tc main_v56_2) = C ∧
      W k (Proc.devRef .tc main_v56_3) = X ∧ W k (Proc.devRef .tc main_v56_4) = A) ∧
    (∀ b d n, (show FVec Ideal S8x1024x64 .f32 from W k (Proc.devRef .tc main_v56_6)) (ix3 b d n) = (p b).h k n d) ∧
    (∀ (t : Fin 250) b d, t.val < k → (show FVec Ideal S250x8x1024 .f32 from W k (Proc.devRef .tc main_v56_7)) (ix3 t b d) = (p b).y t d) := by
  induction k with
  | zero =>
    refine ⟨⟨h0, h1, h2, h3, h4⟩, fun b d n => ?_, fun t b d h => absurd h (Nat.not_lt_zero _)⟩
    rw [h6]
    show rH0 (ix3 b d n) = _
    pointwise [rH0]
    rfl
  | succ k ih =>
    obtain ⟨⟨e0, e1, e2, e3, e4⟩, eH, eY⟩ := ih (by omega)
    have hoff : ∀ a, rOff (W k (Proc.devRef .tc main_v56_5)) a = (((![k, 0, 0] : Fin 3 → ℕ) a : ℕ) : ℤ) := off_eq _ (⟨k, by omega⟩ : Fin 250) (hc k)
    have eS : ∀ b d n, (show FVec Ideal S8x1024x64 .f32 from res_main_while0b_v109 (W k)) (ix3 b d n) = (p b).h (k + 1) n d := by
      intro b d n
      rw [v109_eq]
      refine (rStep_at _ _ _ _ _ b d n).trans ?_
      rw [row_at _ _ (⟨k, by omega⟩ : Fin 250) hoff, row_at _ _ (⟨k, by omega⟩ : Fin 250) hoff, row64_at _ _ (⟨k, by omega⟩ : Fin 250) hoff, e0, e1, e3, e4, eD, eX, eB, eA b]
      refine (congrArg (fun q : EReal => q * Ideal.exp ((p b).dt ⟨k, by omega⟩ d * (p b).a d n) + (p b).dt ⟨k, by omega⟩ d * (p b).b ⟨k, by omega⟩ n * (p b).xc ⟨k, by omega⟩ d) (eH b d n)).trans ?_
      unfold Spec.Par.h
      simp only [Spec.scan]
      rw [Spec.rows_of_lt _ (by omega : k < 250), Spec.rows_of_lt _ (by omega : k < 250), Spec.rows_of_lt _ (by omega : k < 250)]
      congr 1
      ac_rfl
    refine ⟨⟨?_, ?_, ?_, ?_, ?_⟩, fun b d n => ?_, fun t b d h => ?_⟩
    · exact ((hs k main_v56_0 (by decide)).trans (STEP_main_v56_0 _)).trans e0
    · exact ((hs k main_v56_1 (by decide)).trans (STEP_main_v56_1 _)).trans e1
    · exact ((hs k main_v56_2 (by decide)).trans (STEP_main_v56_2 _)).trans e2
    · exact ((hs k main_v56_3 (by decide)).trans (STEP_main_v56_3 _)).trans e3
    · exact ((hs k main_v56_4 (by decide)).trans (STEP_main_v56_4 _)).trans e4
    · rw [(hs k main_v56_6 (by decide)).trans (STEP_main_v56_6 _)]
      exact eS b d n
    · rw [(hs k main_v56_7 (by decide)).trans (STEP_main_v56_7 _), step7_eq]
      refine (put_at _ _ _ (⟨k, by omega⟩ : Fin 250) hoff t b d).trans ?_
      by_cases hh : t = (⟨k, by omega⟩ : Fin 250)
      · rw [if_pos hh, yrow_at]
        have ht : t.val = k := congrArg Fin.val hh
        refine Finset.sum_congr rfl fun n _ => ?_
        rw [row64_at _ _ (⟨k, by omega⟩ : Fin 250) hoff, e2, eC, ← hh, ht]
        exact congrArg (· * (p b).c t n) (eS b d n)
      · rw [if_neg hh]
        exact eY t b d (Nat.lt_of_le_of_ne (by omega) fun q => hh (Fin.ext q))
end Cert.Proof.RV
end
-- ==== Proof.RPost.lean ====
module
public import proofs.«01_k».proof.Proof.RLoop
@[expose] public section
set_option maxRecDepth 16384
noncomputable section
namespace Cert.Proof.RV
open Cert.ReferenceIdeal Cert.ReferenceIdeal.Gen Cert.ReferenceIdeal.Value
open Idealize.ShloMosaic Idealize.ShloMosaic.TcCoe Idealize.ShloMosaic.StableHlo Idealize.ShloMosaic.Tactic

/-- The scan's rows with the skip term. -/
def rY (y : FVec Ideal S250x8x1024 .f32) (x : FVec Ideal S8x250x1024 .f32) (s : FVec Ideal S1024 .f32) : FVec Ideal S8x250x1024 .f32 :=
  addf (transpose S8x250x1024 [1, 0, 2] y transposes_S250x8x1024_S8x250x1024_1_0_2) (mulf x (rBc s))
/-- The output projection of the gated rows. -/
def rOut (y z : FVec Ideal S8x250x1024 .f32) (w : FVec Ideal S512x1024 .f32) : FVec Ideal S8x250x512 .f32 :=
  Host.dotGeneral dot_S8x250x1024_S512x1024_S8x250x512_2_1_01_0_n_n none (mulf y z) w
/-- The scaled exponential linear unit over a whole array. -/
def rSelu (v : FVec Ideal S8x250x512 .f32) : FVec Ideal S8x250x512 .f32 :=
  mulf (broadcastInDim S8x250x512 ![] bcast_S_S8x250x512 (constant S_ .f32 0x3F867D5F#32))
    (select (cmpf .ogt v (broadcastInDim S8x250x512 ![] bcast_S_S8x250x512 (constant S_ .f32 0x00000000#32))) v
      (mulf (broadcastInDim S8x250x512 ![] bcast_S_S8x250x512 (constant S_ .f32 0x3FD62D7D#32))
        (Host.expm1 (select (cmpf .ogt v (broadcastInDim S8x250x512 ![] bcast_S_S8x250x512 (constant S_ .f32 0x00000000#32)))
          (broadcastInDim S8x250x512 ![] bcast_S_S8x250x512 (constant S_ .f32 0x00000000#32)) v))))
/-- The block's output without its padding, per entry one vector, features first. -/
def rFlat (o : FVec Ideal S8x250x512 .f32) : FVec Ideal S8x120000 .f32 :=
  shapeCast S8x120000 (transpose S8x24x5000 [0, 2, 1] (shapeCast S8x5000x24 (extractStridedSlice S8x250x480 ![0, 0, 0] o slices_S8x250x512_S8x250x480_0_0_0) shapeCasts_S8x250x480_S8x5000x24) transposes_S8x5000x24_S8x24x5000_0_2_1) shapeCasts_S8x24x5000_S8x120000
/-- The first linear layer. -/
def rFc1 (x : FVec Ideal S8x120000 .f32) (w : FVec Ideal S512x120000 .f32) (b : FVec Ideal S512 .f32) : FVec Ideal S8x512 .f32 :=
  addf (Host.dotGeneral dot_S8x120000_S120000x512_S8x512_1_0_0_1_n_n none x (transpose S120000x512 [1, 0] w transposes_S512x120000_S120000x512_1_0)) (broadcastInDim S8x512 ![0, 1] bcast_S1x512_S8x512_0_1 (broadcastInDim S1x512 ![1] bcast_S512_S1x512_1 b))
/-- The second linear layer. -/
def rFc2 (x : FVec Ideal S8x512 .f32) (w : FVec Ideal S256x512 .f32) (b : FVec Ideal S256 .f32) : FVec Ideal S8x256 .f32 :=
  addf (Host.dotGeneral dot_S8x512_S512x256_S8x256_1_0_0_1_n_n none x (transpose S512x256 [1, 0] w transposes_S256x512_S512x256_1_0)) (broadcastInDim S8x256 ![0, 1] bcast_S1x256_S8x256_0_1 (broadcastInDim S1x256 ![1] bcast_S256_S1x256_1 b))
/-- The third linear layer. -/
def rFc3 (x : FVec Ideal S8x256 .f32) (w : FVec Ideal S64x256 .f32) (b : FVec Ideal S64 .f32) : FVec Ideal S8x64 .f32 :=
  addf (Host.dotGeneral dot_S8x256_S256x64_S8x64_1_0_0_1_n_n none x (transpose S256x64 [1, 0] w transposes_S64x256_S256x64_1_0)) (broadcastInDim S8x64 ![0, 1] bcast_S1x64_S8x64_0_1 (broadcastInDim S1x64 ![1] bcast_S64_S1x64_1 b))
/-- The last linear layer. -/
def rFc4 (x : FVec Ideal S8x64 .f32) (w : FVec Ideal S8x64 .f32) (b : FVec Ideal S8 .f32) : FVec Ideal S8x8 .f32 :=
  addf (Host.dotGeneral dot_S8x64_S64x8_S8x8_1_0_0_1_n_n none x (transpose S64x8 [1, 0] w transposes_S8x64_S64x8_1_0)) (broadcastInDim S8x8 ![0, 1] bcast_S1x8_S8x8_0_1 (broadcastInDim S1x8 ![1] bcast_S8_S1x8_1 b))

section
variable (V : Valuation τ sig (Elt Ideal))
/-- The scan's output with the skip term. -/
theorem s9 : after hostOps0_9 V (Proc.devRef .tc main_v61) = rY (V (Proc.devRef .tc main_v56_7)) (V (Proc.devRef .tc main_v38)) (V (Proc.devRef .tc main_arg8)) := by
  after_reads_simp
  rfl
/-- The activated gate. -/
theorem s10 : after hostOps0_10 V (Proc.devRef .tc main_v62) = rSilu (V (Proc.devRef .tc main_v4)) := by
  after_reads_simp
  rfl
/-- The output projection. -/
theorem s11 : after hostOps0_11 V (Proc.devRef .tc main_v64) = rOut (V (Proc.devRef .tc main_v61)) (V (Proc.devRef .tc main_v62)) (V (Proc.devRef .tc main_arg9)) := by
  after_reads_simp
  rfl
/-- Its activation. -/
theorem s12 : after hostOps0_12 V (Proc.devRef .tc main_v65) = rSelu (V (Proc.devRef .tc main_v64)) := by
  after_reads_simp
  rfl
/-- The four linear layers. -/
theorem s13 : after hostOps0_13 V (Proc.devRef .tc main_v89) = rFc4 (rFc3 (rFc2 (rFc1 (rFlat (V (Proc.devRef .tc main_v65))) (V (Proc.devRef .tc main_arg10)) (V (Proc.devRef .tc main_arg11)))
    (V (Proc.devRef .tc main_arg12)) (V (Proc.devRef .tc main_arg13))) (V (Proc.devRef .tc main_arg14)) (V (Proc.devRef .tc main_arg15))) (V (Proc.devRef .tc main_arg16)) (V (Proc.devRef .tc main_arg17)) := by
  after_reads_simp
  rfl
end

/-- The skip term, every entry. -/
theorem y_at (y : FVec Ideal S250x8x1024 .f32) (x : FVec Ideal S8x250x1024 .f32) (s : FVec Ideal S1024 .f32) (b : Fin 8) (t : Fin 250) (d : Fin 1024) :
    rY y x s (ix3 b t d) = y (ix3 t b d) + x (ix3 b t d) * s (ix1 d) := by
  pointwise [rY, rBc]
/-- The gated output projection, every entry. -/
theorem out_at (y z : FVec Ideal S8x250x1024 .f32) (w : FVec Ideal S512x1024 .f32) (b : Fin 8) (t : Fin 250) (e : Fin 512) :
    rOut y z w (ix3 b t e) = ∑ d : Fin 1024, (y (ix3 b t d) * z (ix3 b t d)) * w (ix2 e d) := by
  pointwise [rOut]
/-- The activation, every entry. -/
theorem selu_at (v : FVec Ideal S8x250x512 .f32) (b : Fin 8) (t : Fin 250) (e : Fin 512) : rSelu v (ix3 b t e) = Spec.selu (v (ix3 b t e)) := by
  pointwise [rSelu, Spec.selu]
  by_cases h : 0 < v (ix3 b t e)
  · rw [if_pos h, if_pos h]
  · rw [if_neg h, if_neg h, if_neg h]
/-- The first linear layer, every entry. -/
theorem fc1_at (x : FVec Ideal S8x120000 .f32) (w : FVec Ideal S512x120000 .f32) (b : FVec Ideal S512 .f32) (i : Fin 8) (j : Fin 512) :
    rFc1 x w b (ix2 i j) = (∑ k : Fin 120000, x (ix2 i k) * w (ix2 j k)) + b (ix1 j) := by
  pointwise [rFc1]
/-- The second linear layer, every entry. -/
theorem fc2_at (x : FVec Ideal S8x512 .f32) (w : FVec Ideal S256x512 .f32) (b : FVec Ideal S256 .f32) (i : Fin 8) (j : Fin 256) :
    rFc2 x w b (ix2 i j) = (∑ k : Fin 512, x (ix2 i k) * w (ix2 j k)) + b (ix1 j) := by
  pointwise [rFc2]
/-- The third linear layer, every entry. -/
theorem fc3_at (x : FVec Ideal S8x256 .f32) (w : FVec Ideal S64x256 .f32) (b : FVec Ideal S64 .f32) (i : Fin 8) (j : Fin 64) :
    rFc3 x w b (ix2 i j) = (∑ k : Fin 256, x (ix2 i k) * w (ix2 j k)) + b (ix1 j) := by
  pointwise [rFc3]
/-- The fourth linear layer, every entry. -/
theorem fc4_at (x : FVec Ideal S8x64 .f32) (w : FVec Ideal S8x64 .f32) (b : FVec Ideal S8 .f32) (i : Fin 8) (j : Fin 8) :
    rFc4 x w b (ix2 i j) = (∑ k : Fin 64, x (ix2 i k) * w (ix2 j k)) + b (ix1 j) := by
  pointwise [rFc4]
end Cert.Proof.RV
end
-- ==== Proof.RFinal.lean ====
module
public import proofs.«01_k».proof.Proof.RPost
@[expose] public section
set_option maxRecDepth 16384
noncomputable section
namespace Cert.Proof.RV
open Cert.ReferenceIdeal Cert.ReferenceIdeal.Gen Cert.ReferenceIdeal.Value
open Idealize.ShloMosaic Idealize.ShloMosaic.TcCoe Idealize.ShloMosaic.StableHlo Idealize.ShloMosaic.Tactic
open Cert.Proof.Ref (args args_pre args_trip L L_keep L_arg writes9 writes10 writes11 writes12 writes13 tripW)

section
variable (V : Valuation τ sig (Elt Ideal))
/-- The buffers after each stretch before the loop. -/
abbrev U1 : Valuation τ sig (Elt Ideal) := after hostOps0_1 (after hostOps0 V)
/-- After the input projection. -/
abbrev U2 : Valuation τ sig (Elt Ideal) := after hostOps0_2 (U1 V)
/-- After the padding. -/
abbrev U3 : Valuation τ sig (Elt Ideal) := after hostOps0_3 (U2 V)
/-- After the convolution. -/
abbrev U4 : Valuation τ sig (Elt Ideal) := after hostOps0_4 (U3 V)
/-- After the activation. -/
abbrev U5 : Valuation τ sig (Elt Ideal) := after hostOps0_5 (U4 V)
/-- After the second projection. -/
abbrev U6 : Valuation τ sig (Elt Ideal) := after hostOps0_6 (U5 V)
/-- After the step sizes. -/
abbrev U7 : Valuation τ sig (Elt Ideal) := after hostOps0_7 (U6 V)
/-- When the loop is entered. -/
abbrev U8 : Valuation τ sig (Elt Ideal) := after hostOps0_8 (U7 V)
/-- All stretches before the loop, one by one. -/
theorem pre_eq : afterL preI V = U8 V := rfl
/-- The arguments stay through the stretches. -/
theorem U_args (r : Ref sig .tc) (h : r ∈ args) :
    U1 V (Proc.devRef .tc r) = V (Proc.devRef .tc r) ∧ U3 V (Proc.devRef .tc r) = V (Proc.devRef .tc r)
      ∧ U5 V (Proc.devRef .tc r) = V (Proc.devRef .tc r) ∧ U7 V (Proc.devRef .tc r) = V (Proc.devRef .tc r) := by
  have h := args_pre r h
  simp only [List.mem_append, not_or] at h
  obtain ⟨⟨⟨⟨⟨⟨⟨⟨h0, h1⟩, h2⟩, h3⟩, h4⟩, h5⟩, h6⟩, h7⟩, h8⟩ := h
  have e1 : U1 V (Proc.devRef .tc r) = V (Proc.devRef .tc r) :=
    (after_of_writes_sub hostOps0_1 _ hostOps0_1_writes h1).trans (after_of_writes_sub hostOps0 _ hostOps0_writes h0)
  have e3 : U3 V (Proc.devRef .tc r) = V (Proc.devRef .tc r) :=
    (after_of_writes_sub hostOps0_3 _ hostOps0_3_writes h3).trans ((after_of_writes_sub hostOps0_2 _ hostOps0_2_writes h2).trans e1)
  have e5 : U5 V (Proc.devRef .tc r) = V (Proc.devRef .tc r) :=
    (after_of_writes_sub hostOps0_5 _ hostOps0_5_writes h5).trans ((after_of_writes_sub hostOps0_4 _ hostOps0_4_writes h4).trans e3)
  exact ⟨e1, e3, e5, (after_of_writes_sub hostOps0_7 _ hostOps0_7_writes h7).trans ((after_of_writes_sub hostOps0_6 _ hostOps0_6_writes h6).trans e5)⟩

section
variable (x0 : FVec Ideal S8x5000x24 .f32) (x1 : FVec Ideal S2048x512 .f32) (x2 : FVec Ideal S1024x4 .f32) (x3 : FVec Ideal S1024 .f32) (x4 : FVec Ideal S160x1024 .f32) (x5 : FVec Ideal S1024x32 .f32) (x6 : FVec Ideal S1024 .f32) (x7 : FVec Ideal S1024x64 .f32)
  (h0 : V (Proc.devRef .tc main_arg0) = x0) (h1 : V (Proc.devRef .tc main_arg1) = x1) (h2 : V (Proc.devRef .tc main_arg2) = x2) (h3 : V (Proc.devRef .tc main_arg3) = x3)
  (h4 : V (Proc.devRef .tc main_arg4) = x4) (h5 : V (Proc.devRef .tc main_arg5) = x5) (h6 : V (Proc.devRef .tc main_arg6) = x6) (h7 : V (Proc.devRef .tc main_arg7) = x7)
include h0 h1
/-- The gate at the loop's entry. -/
theorem u4 : U8 V (Proc.devRef .tc main_v4) = rZ (aXZ x0 x1) := by
  rw [U8, after_of_writes_sub hostOps0_8 _ hostOps0_8_writes (by decide), U7, after_of_writes_sub hostOps0_7 _ hostOps0_7_writes (by decide),
    U6, after_of_writes_sub hostOps0_6 _ hostOps0_6_writes (by decide), U5, after_of_writes_sub hostOps0_5 _ hostOps0_5_writes (by decide),
    U4, after_of_writes_sub hostOps0_4 _ hostOps0_4_writes (by decide), U3, after_of_writes_sub hostOps0_3 _ hostOps0_3_writes (by decide),
    U2, s2_v4, (U_args V main_arg1 (by decide)).1, U1, s1, h0, h1]
  rfl
include h2 h3
/-- The activated convolution after its stretch. -/
theorem u38' : U5 V (Proc.devRef .tc main_v38) = aXc x0 x1 x2 x3 := by
  rw [U5, s5, U4, s4, (U_args V main_arg2 (by decide)).2.1, (U_args V main_arg3 (by decide)).2.1, U3, U2, s3, s2_v3, (U_args V main_arg1 (by decide)).1, U1, s1, h0, h1, h2, h3]
  rfl
/-- The activated convolution at the loop's entry. -/
theorem u38 : U8 V (Proc.devRef .tc main_v38) = aXc x0 x1 x2 x3 := by
  rw [U8, after_of_writes_sub hostOps0_8 _ hostOps0_8_writes (by decide), U7, after_of_writes_sub hostOps0_7 _ hostOps0_7_writes (by decide),
    U6, after_of_writes_sub hostOps0_6 _ hostOps0_6_writes (by decide), u38' V x0 x1 x2 x3 h0 h1 h2 h3]
/-- The activations that the loop reads. -/
theorem u56_3 : U8 V (Proc.devRef .tc main_v56_3) = rT (aXc x0 x1 x2 x3) := by
  rw [U8, s8_3, U7, after_of_writes_sub hostOps0_7 _ hostOps0_7_writes (by decide),
    U6, after_of_writes_sub hostOps0_6 _ hostOps0_6_writes (by decide), u38' V x0 x1 x2 x3 h0 h1 h2 h3]
include h4
/-- The input projections that the loop reads. -/
theorem u56_1 : U8 V (Proc.devRef .tc main_v56_1) = rT64 (rB (aDbl x0 x1 x2 x3 x4)) := by
  rw [U8, s8_1, U7, after_of_writes_sub hostOps0_7 _ hostOps0_7_writes (by decide), U6, s6_v41, u38' V x0 x1 x2 x3 h0 h1 h2 h3, (U_args V main_arg4 (by decide)).2.2.1, h4]
  rfl
/-- The output projections that the loop reads. -/
theorem u56_2 : U8 V (Proc.devRef .tc main_v56_2) = rT64 (rC (aDbl x0 x1 x2 x3 x4)) := by
  rw [U8, s8_2, U7, after_of_writes_sub hostOps0_7 _ hostOps0_7_writes (by decide), U6, s6_v42, u38' V x0 x1 x2 x3 h0 h1 h2 h3, (U_args V main_arg4 (by decide)).2.2.1, h4]
  rfl
include h5 h6
/-- The step sizes that the loop reads. -/
theorem u56_0 : U8 V (Proc.devRef .tc main_v56_0) = rT (aDt x0 x1 x2 x3 x4 x5 x6) := by
  rw [U8, s8_0, U7, s7, U6, s6_v46, u38' V x0 x1 x2 x3 h0 h1 h2 h3, (U_args V main_arg4 (by decide)).2.2.1, (U_args V main_arg5 (by decide)).2.2.1, (U_args V main_arg6 (by decide)).2.2.1, h4, h5, h6]
  rfl
omit h0 h1 h2 h3 h4 h5 h6
include h7
/-- The state matrix that the loop reads. -/
theorem u56_4 : U8 V (Proc.devRef .tc main_v56_4) = rA x7 := by
  rw [U8, s8_4, (U_args V main_arg7 (by decide)).2.2.2, h7]
end
/-- The state starts at zero. -/
theorem u56_6 : U8 V (Proc.devRef .tc main_v56_6) = rH0 := by rw [U8, s8_6]
end

variable (m : (ℓ : Loc nD τ sig) → Buf (Elt Ideal) ℓ) (c : Dev nD)
/-- An argument as launched. -/
abbrev arg (r : Ref sig .tc) := m ((c.tc : Thread nD τ).loc r)
/-- The inputs of batch entry `b`, as launched. -/
def mp (b : Fin 8) : Spec.Par := rp (arg m c main_arg0) (arg m c main_arg1) (arg m c main_arg2) (arg m c main_arg3) (arg m c main_arg4)
  (arg m c main_arg5) (arg m c main_arg6) (arg m c main_arg7) (arg m c main_arg8) (arg m c main_arg9) b

/-- The written rows when the loop is left. -/
theorem L_y (t : Fin 250) (b : Fin 8) (d : Fin 1024) :
    (show FVec Ideal S250x8x1024 .f32 from L m c (Proc.devRef .tc main_v56_7)) (ix3 t b d) = (mp m c b).y t d := by
  have hc : L m c (Proc.devRef .tc main_v56_7) = atK m 250 c (Proc.devRef .tc main_v56_7) := cond_keeps _ main_v56_7 (by decide)
  rw [hc]
  refine ((loop_at (fun k => atK m k c) (mp m c) (fun k j hj => trip_agree (atK m k c) j hj) (fun k => atK_ctr m c k)
    (rT (aDt (arg m c main_arg0) (arg m c main_arg1) (arg m c main_arg2) (arg m c main_arg3) (arg m c main_arg4) (arg m c main_arg5) (arg m c main_arg6)))
    (rT (aXc (arg m c main_arg0) (arg m c main_arg1) (arg m c main_arg2) (arg m c main_arg3)))
    (rT64 (rB (aDbl (arg m c main_arg0) (arg m c main_arg1) (arg m c main_arg2) (arg m c main_arg3) (arg m c main_arg4))))
    (rT64 (rC (aDbl (arg m c main_arg0) (arg m c main_arg1) (arg m c main_arg2) (arg m c main_arg3) (arg m c main_arg4))))
    (rA (arg m c main_arg7))
    (u56_0 _ _ _ _ _ _ _ _ rfl rfl rfl rfl rfl rfl rfl) (u56_1 _ _ _ _ _ _ rfl rfl rfl rfl rfl) (u56_2 _ _ _ _ _ _ rfl rfl rfl rfl rfl)
    (u56_3 _ _ _ _ _ rfl rfl rfl rfl) (u56_4 _ _ rfl) (u56_6 _)
    (fun t b d => (t_at _ t b d).trans (dt_at _ _ _ _ _ _ _ _ _ _ b t d)) (fun t b d => (t_at _ t b d).trans (xc_at _ _ _ _ _ _ _ _ _ _ b t d))
    (fun t b n => (t64_at _ t b n).trans (b_at _ _ _ _ _ _ _ _ _ _ b t n)) (fun t b n => (t64_at _ t b n).trans (c_at _ _ _ _ _ _ _ _ _ _ b t n))
    (fun b d n => a_at _ _ _ _ _ _ _ _ _ _ b d n) 250 (Nat.le_refl _)).2.2 t b d t.isLt)
/-- The convolution's rows when the loop is left. -/
theorem L_x : L m c (Proc.devRef .tc main_v38) = aXc (arg m c main_arg0) (arg m c main_arg1) (arg m c main_arg2) (arg m c main_arg3) :=
  (L_keep m c main_v38 (by decide +kernel)).trans (u38 _ _ _ _ _ rfl rfl rfl rfl)
/-- The gate's rows when the loop is left. -/
theorem L_z : L m c (Proc.devRef .tc main_v4) = rZ (aXZ (arg m c main_arg0) (arg m c main_arg1)) :=
  (L_keep m c main_v4 (by decide +kernel)).trans (u4 _ _ _ rfl rfl)

/-- The block's output, all entries. -/
def O : FVec Ideal S8x250x512 .f32 :=
  rSelu (rOut (rY (L m c (Proc.devRef .tc main_v56_7)) (L m c (Proc.devRef .tc main_v38)) (arg m c main_arg8)) (rSilu (L m c (Proc.devRef .tc main_v4))) (arg m c main_arg9))
/-- The block's output is the specification's, every entry. -/
theorem O_at (b : Fin 8) (t : Fin 250) (e : Fin 512) : O m c (ix3 b t e) = (mp m c b).out t e := by
  unfold O
  rw [selu_at, out_at]
  refine congrArg Spec.selu (Finset.sum_congr rfl fun d _ => congrArg (· * (mp m c b).wo e d) ?_)
  rw [y_at, silu_at, L_x, L_z]
  refine congrArg₂ (· * ·) (congrArg₂ (· + ·) (L_y m c t b d) (congrArg (· * (mp m c b).sk d) ?_)) (congrArg Spec.silu ?_)
  · exact xc_at _ _ _ _ (arg m c main_arg4) (arg m c main_arg5) (arg m c main_arg6) (arg m c main_arg7) (arg m c main_arg8) (arg m c main_arg9) b t d
  · exact z_at _ _ (arg m c main_arg2) (arg m c main_arg3) (arg m c main_arg4) (arg m c main_arg5) (arg m c main_arg6) (arg m c main_arg7) (arg m c main_arg8) (arg m c main_arg9) b t d

/-- The four linear layers on the flattened output. -/
def rTail (o : FVec Ideal S8x250x512 .f32) (w1 : FVec Ideal S512x120000 .f32) (b1 : FVec Ideal S512 .f32) (w2 : FVec Ideal S256x512 .f32) (b2 : FVec Ideal S256 .f32)
    (w3 : FVec Ideal S64x256 .f32) (b3 : FVec Ideal S64 .f32) (w4 : FVec Ideal S8x64 .f32) (b4 : FVec Ideal S8 .f32) : FVec Ideal S8x8 .f32 :=
  rFc4 (rFc3 (rFc2 (rFc1 (rFlat o) w1 b1) w2 b2) w3 b3) w4 b4

/-- The reference's result. -/
theorem final_eq : afterL postI (L m c) (Proc.devRef .tc main_v89) = rTail (O m c) (arg m c main_arg10) (arg m c main_arg11) (arg m c main_arg12)
    (arg m c main_arg13) (arg m c main_arg14) (arg m c main_arg15) (arg m c main_arg16) (arg m c main_arg17) := by
  have k9 : ∀ r : Ref sig .tc, r ∉ Ref.W9 → after hostOps0_9 (L m c) (Proc.devRef .tc r) = L m c (Proc.devRef .tc r) := fun r h => after_of_writes_sub hostOps0_9 _ writes9 h
  have k10 : ∀ r : Ref sig .tc, r ∉ Ref.W10 → after hostOps0_10 (after hostOps0_9 (L m c)) (Proc.devRef .tc r) = after hostOps0_9 (L m c) (Proc.devRef .tc r) :=
    fun r h => after_of_writes_sub hostOps0_10 _ writes10 h
  have k11 : ∀ r : Ref sig .tc, r ∉ Ref.W11 → after hostOps0_11 (after hostOps0_10 (after hostOps0_9 (L m c))) (Proc.devRef .tc r) = after hostOps0_10 (after hostOps0_9 (L m c)) (Proc.devRef .tc r) :=
    fun r h => after_of_writes_sub hostOps0_11 _ writes11 h
  have k12 : ∀ r : Ref sig .tc, r ∉ Ref.W12 → after hostOps0_12 (after hostOps0_11 (after hostOps0_10 (after hostOps0_9 (L m c)))) (Proc.devRef .tc r) = after hostOps0_11 (after hostOps0_10 (after hostOps0_9 (L m c))) (Proc.devRef .tc r) :=
    fun r h => after_of_writes_sub hostOps0_12 _ writes12 h
  have ka : ∀ r ∈ args, after hostOps0_12 (after hostOps0_11 (after hostOps0_10 (after hostOps0_9 (L m c)))) (Proc.devRef .tc r) = arg m c r := fun r h => by
    have h' := Ref.args_post r h
    simp only [List.mem_append, not_or] at h'
    rw [k12 r h'.1.2, k11 r h'.1.1.2, k10 r h'.1.1.1.2, k9 r h'.1.1.1.1, L_arg m c r h]
  simp only [afterL_cons, afterL_nil]
  rw [s13, ka main_arg10 (by decide), ka main_arg11 (by decide), ka main_arg12 (by decide), ka main_arg13 (by decide), ka main_arg14 (by decide), ka main_arg15 (by decide),
    ka main_arg16 (by decide), ka main_arg17 (by decide), s12, s11, k10 main_v61 (by decide), s9, s10, k9 main_v4 (by decide), k10 main_arg9 (by decide), k9 main_arg9 (by decide),
    L_arg m c main_arg8 (by decide), L_arg m c main_arg9 (by decide)]
  rfl
end Cert.Proof.RV
end
-- ==== Proof.Value.lean ====
module
public import proofs.«01_k».proof.Proof.KFc
public import proofs.«01_k».proof.Proof.RFinal
@[expose] public section
set_option maxRecDepth 16384
noncomputable section
namespace Cert.Proof.Value
open Cert.KernelIdeal Cert.KernelIdeal.Gen
open Idealize.ShloMosaic Idealize.ShloMosaic.TcCoe Idealize.ShloMosaic.Tactic
open Idealize.SL.Sem

/-- The kernel's flattening: feature `f` of sample `s`. -/
theorem kFlat_at (o : FVec Ideal S8x250x512 .f32) (i : Fin 8) (f : Fin 24) (s : Fin 5000) :
    KV.kFlat o (ix3 i f s) = o (ix3 i (⟨s.val / 20, by omega⟩ : Fin 250) (⟨s.val % 20 * 24 + f.val, by omega⟩ : Fin 512)) := by
  pointwise [KV.kFlat]
  blk_ext []
/-- The reference's flattening at the same place. -/
theorem rFlat_at (o : FVec Ideal S8x250x512 .f32) (i : Fin 8) (f : Fin 24) (s : Fin 5000) :
    RV.rFlat o (ix2 i (⟨f.val * 5000 + s.val, by omega⟩ : Fin 120000)) = o (ix3 i (⟨s.val / 20, by omega⟩ : Fin 250) (⟨s.val % 20 * 24 + f.val, by omega⟩ : Fin 512)) := by
  pointwise [RV.rFlat]
  blk_ext []
/-- The kernel's layout of the first weights, every entry. -/
theorem kW_at (w : FVec Ideal S512x120000 .f32) (j : Fin 512) (f : Fin 24) (s : Fin 5000) :
    KV.kW w (ix3 j f s) = w (ix2 j (⟨f.val * 5000 + s.val, by omega⟩ : Fin 120000)) := by
  pointwise [KV.kW]
  blk_ext []
/-- Both programs form the same large sum. -/
theorem fcG_at (o : FVec Ideal S8x250x512 .f32) (w : FVec Ideal S512x120000 .f32) (i : Fin 8) (j : Fin 512) :
    KV.fcG (KV.kFlat o) (KV.kW w) (ix2 i j) = ∑ k : Fin 120000, RV.rFlat o (ix2 i k) * w (ix2 j k) := by
  refine Eq.trans ?_ (Fin.sum_univ_tiles 24 5000 rfl (fun k : Fin 120000 => RV.rFlat o (ix2 i k) * w (ix2 j k))).symm
  exact Finset.sum_congr rfl fun f _ => Finset.sum_congr rfl fun s _ => congrArg₂ (fun a b : EReal => a * b) ((kFlat_at o i f s).trans (rFlat_at o i f s).symm) (kW_at w j f s)
/-- The kernel's last call, every entry. -/
theorem head_at (x : FVec Ideal S8x512 .f32) (b1 : FVec Ideal S512 .f32) (w2 : FVec Ideal S256x512 .f32) (b2 : FVec Ideal S256 .f32) (w3 : FVec Ideal S64x256 .f32) (b3 : FVec Ideal S64 .f32)
    (w4 : FVec Ideal S8x64 .f32) (b4 : FVec Ideal S8 .f32) (i j : Fin 8) :
    k2_pay1 (F := Ideal) x (shapeCast S1x512 b1 shapeCasts_S512_S1x512) w2 (shapeCast S1x256 b2 shapeCasts_S256_S1x256) w3 (shapeCast S1x64 b3 shapeCasts_S64_S1x64) w4 (shapeCast S1x8 b4 shapeCasts_S8_S1x8) (ix2 i j)
      = (∑ k : Fin 64, ((∑ l : Fin 256, ((∑ p : Fin 512, (x (ix2 i p) + b1 (ix1 p)) * w2 (ix2 l p)) + b2 (ix1 l)) * w3 (ix2 k l)) + b3 (ix1 k)) * w4 (ix2 j k)) + b4 (ix1 j) := by
  pointwise [k2_pay1]
/-- The reference's tail, every entry. -/
theorem rTail_at (o : FVec Ideal S8x250x512 .f32) (w1 : FVec Ideal S512x120000 .f32) (b1 : FVec Ideal S512 .f32) (w2 : FVec Ideal S256x512 .f32) (b2 : FVec Ideal S256 .f32) (w3 : FVec Ideal S64x256 .f32) (b3 : FVec Ideal S64 .f32)
    (w4 : FVec Ideal S8x64 .f32) (b4 : FVec Ideal S8 .f32) (i j : Fin 8) :
    RV.rTail o w1 b1 w2 b2 w3 b3 w4 b4 (ix2 i j)
      = (∑ k : Fin 64, ((∑ l : Fin 256, ((∑ p : Fin 512, ((∑ q : Fin 120000, RV.rFlat o (ix2 i q) * w1 (ix2 p q)) + b1 (ix1 p)) * w2 (ix2 l p)) + b2 (ix1 l)) * w3 (ix2 k l)) + b3 (ix1 k)) * w4 (ix2 j k)) + b4 (ix1 j) := by
  unfold RV.rTail
  simp only [RV.fc4_at, RV.fc3_at, RV.fc2_at, RV.fc1_at]
/-- The tail of the kernel is the tail of the reference. -/
theorem tail_eq (o : FVec Ideal S8x250x512 .f32) (w1 : FVec Ideal S512x120000 .f32) (b1 : FVec Ideal S512 .f32) (w2 : FVec Ideal S256x512 .f32) (b2 : FVec Ideal S256 .f32) (w3 : FVec Ideal S64x256 .f32) (b3 : FVec Ideal S64 .f32)
    (w4 : FVec Ideal S8x64 .f32) (b4 : FVec Ideal S8 .f32) :
    k2_pay1 (F := Ideal) (KV.fcG (KV.kFlat o) (KV.kW w1)) (shapeCast S1x512 b1 shapeCasts_S512_S1x512) w2 (shapeCast S1x256 b2 shapeCasts_S256_S1x256) w3 (shapeCast S1x64 b3 shapeCasts_S64_S1x64) w4 (shapeCast S1x8 b4 shapeCasts_S8_S1x8)
      = RV.rTail o w1 b1 w2 b2 w3 b3 w4 b4 := by
  funext y
  idx_vars y
  refine (head_at _ b1 w2 b2 w3 b3 w4 b4 y0 y1).trans (Eq.trans ?_ (rTail_at o w1 b1 w2 b2 w3 b3 w4 b4 y0 y1).symm)
  simp only [fcG_at]

section
open Run
variable (m : (ℓ : Loc Cert.KernelIdeal.nD Cert.KernelIdeal.τ Cert.KernelIdeal.sig) → Buf (Elt Ideal) ℓ) (c : Dev Cert.KernelIdeal.nD)
/-- An argument before the last host stretch. -/
theorem W6_arg (a : Ref Cert.KernelIdeal.sig .tc) (ha : a ∈ Run.args) : W6 m c (Proc.devRef .tc a) = KV.arg m c a :=
  (X1_of m c a ((ListAll.forall_mem_of_all_decide (by decide +kernel) : ∀ a ∈ Run.args, ∀ w : Fin cfg1.W, Pipeline.arrRef spec1 w = a → (cfg1.win w).isOut = false) a ha)).trans (E1_args m c a ha)
/-- The kernel's result is the reference's tail of its own block output. -/
theorem kernel_result : X2 m c Cert.KernelIdeal.main_v18 = RV.rTail (KV.O m c) (KV.arg m c main_arg10) (KV.arg m c main_arg11) (KV.arg m c main_arg12)
    (KV.arg m c main_arg13) (KV.arg m c main_arg14) (KV.arg m c main_arg15) (KV.arg m c main_arg16) (KV.arg m c main_arg17) := by
  refine (result_eq m c).trans ((KV.head_final c (E2 m)).trans (Eq.trans ?_ (tail_eq _ _ _ _ _ _ _ _ _)))
  have e13 : E2 m c main_v13 = _ := (KV.g13 (W6 m c)).trans (KV.v13_eq m c)
  have e14 : E2 m c main_v14 = _ := (KV.g14 (W6 m c)).trans (congrArg (fun x : FVec Ideal S512 .f32 => (shapeCast S1x512 x shapeCasts_S512_S1x512 : FVec Ideal S1x512 .f32)) (W6_arg m c main_arg11 (by decide)))
  have e15 : E2 m c main_v15 = _ := (KV.g15 (W6 m c)).trans (congrArg (fun x : FVec Ideal S256 .f32 => (shapeCast S1x256 x shapeCasts_S256_S1x256 : FVec Ideal S1x256 .f32)) (W6_arg m c main_arg13 (by decide)))
  have e16 : E2 m c main_v16 = _ := (KV.g16 (W6 m c)).trans (congrArg (fun x : FVec Ideal S64 .f32 => (shapeCast S1x64 x shapeCasts_S64_S1x64 : FVec Ideal S1x64 .f32)) (W6_arg m c main_arg15 (by decide)))
  have e17 : E2 m c main_v17 = _ := (KV.g17 (W6 m c)).trans (congrArg (fun x : FVec Ideal S8 .f32 => (shapeCast S1x8 x shapeCasts_S8_S1x8 : FVec Ideal S1x8 .f32)) (W6_arg m c main_arg17 (by decide)))
  rw [e13, e14, e15, e16, e17, E2_args m c main_arg12 (by decide), E2_args m c main_arg14 (by decide), E2_args m c main_arg16 (by decide)]

variable (m' : (ℓ : Loc Cert.ReferenceIdeal.nD Cert.ReferenceIdeal.τ Cert.ReferenceIdeal.sig) → Buf (Elt Ideal) ℓ)
/-- The same arguments give the same inputs of every batch entry. -/
theorem mp_eq (b : Fin 8) (h0 : RV.arg m' c Cert.ReferenceIdeal.main_arg0 = KV.arg m c main_arg0) (h1 : RV.arg m' c Cert.ReferenceIdeal.main_arg1 = KV.arg m c main_arg1)
    (h2 : RV.arg m' c Cert.ReferenceIdeal.main_arg2 = KV.arg m c main_arg2) (h3 : RV.arg m' c Cert.ReferenceIdeal.main_arg3 = KV.arg m c main_arg3)
    (h4 : RV.arg m' c Cert.ReferenceIdeal.main_arg4 = KV.arg m c main_arg4) (h5 : RV.arg m' c Cert.ReferenceIdeal.main_arg5 = KV.arg m c main_arg5)
    (h6 : RV.arg m' c Cert.ReferenceIdeal.main_arg6 = KV.arg m c main_arg6) (h7 : RV.arg m' c Cert.ReferenceIdeal.main_arg7 = KV.arg m c main_arg7)
    (h8 : RV.arg m' c Cert.ReferenceIdeal.main_arg8 = KV.arg m c main_arg8) (h9 : RV.arg m' c Cert.ReferenceIdeal.main_arg9 = KV.arg m c main_arg9) :
    RV.mp m' c b = KV.mp m c b := by
  unfold RV.mp KV.mp
  rw [h0, h1, h2, h3, h4, h5, h6, h7, h8, h9]
  rfl
/-- The block's output is the same array. -/
theorem O_eq (h : ∀ b, RV.mp m' c b = KV.mp m c b) : RV.O m' c = KV.O m c := by
  funext y
  idx_vars y
  refine (RV.O_at m' c y0 y1 y2).trans ?_
  rw [h]
  rfl
end

/-- The ideal kernel and the ideal reference leave the same result. -/
theorem algebraic_proof : Cert.algebraic_KernelIdeal_ReferenceIdeal := by
  intro m g m' g' _ hm
  refine ⟨fun c => Run.X2 m c Cert.KernelIdeal.main_v18, ?_, ?_⟩
  · refine (θ_run _ _ _).mono (fun r h c => ?_) (Run.run_end m g)
    have ha : ∀ a ∈ Run.args, ∀ (_ : ¬ (Proc.devRef .tc a : DevRef Cert.KernelIdeal.τ Cert.KernelIdeal.sig).isScoped), r.2.mem ((c.tc : Thread Cert.KernelIdeal.nD Cert.KernelIdeal.τ).loc a) = m ((c.tc : Thread Cert.KernelIdeal.nD Cert.KernelIdeal.τ).loc a) :=
      fun a ha hs => (h.1 c _ (Run.mem_uc a hs)).trans (Run.X2_args m c a ha)
    refine ⟨h.1 c _ (Run.mem_uc Cert.KernelIdeal.main_v18 (by decide)), ?_, ?_, ?_, ?_, ?_, ?_, ?_, ?_, ?_, ?_, ?_, ?_, ?_, ?_, ?_, ?_, ?_, ?_⟩ <;> exact ha _ (by decide) (by decide)
  · refine (θ_run _ _ _).mono (fun r h c => ?_) (Ref.run_end m' g')
    have ha := (h.1 c).2
    refine ⟨(h.1 c).1.trans ?_, ?_, ?_, ?_, ?_, ?_, ?_, ?_, ?_, ?_, ?_, ?_, ?_, ?_, ?_, ?_, ?_, ?_, ?_⟩
    · obtain ⟨a0, a1, a2, a3, a4, a5, a6, a7, a8, a9, a10, a11, a12, a13, a14, a15, a16, a17⟩ := hm c
      refine (RV.final_eq m' c).trans (Eq.trans ?_ (kernel_result m c).symm)
      rw [O_eq m c m' fun b => mp_eq m c m' b a0 a1 a2 a3 a4 a5 a6 a7 a8 a9]
      rw [RV.arg, RV.arg, RV.arg, RV.arg, RV.arg, RV.arg, RV.arg, RV.arg, a10, a11, a12, a13, a14, a15, a16, a17]
    all_goals exact ha _ (by decide +kernel)
end Cert.Proof.Value
end
-- ==== Proof.lean ====
module

public import proofs.«01_k».proof.Defs
public import proofs.«01_k».proof.Proof.Ref
public import proofs.«01_k».proof.Proof.Run
public import proofs.«01_k».proof.Proof.Transfer
public import proofs.«01_k».proof.Proof.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The certificate's claims: the three frames, that the ideal program is the kernel's, and that the ideal kernel
    and the ideal reference leave the same result. -/
theorem claim : Cert.Claim := ⟨Cert.Kernel.Gen.facts, Cert.KernelIdeal.Gen.facts, Cert.ReferenceIdeal.Gen.facts,
  frame_machine Run.frame, frame_ideal Run.frame, Ref.frame, trivial, Value.algebraic_proof⟩

end Cert.Proof

end
